-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x1x128x2560 : Shape := ⟨4, ![1, 1, 128, 2560]⟩
abbrev S4x128x5120 : Shape := ⟨3, ![4, 128, 5120]⟩
abbrev S128x5120x32 : Shape := ⟨3, ![128, 5120, 32]⟩
abbrev S2560x5120 : Shape := ⟨2, ![2560, 5120]⟩
abbrev S4x5120 : Shape := ⟨2, ![4, 5120]⟩
abbrev S5120 : Shape := ⟨1, ![5120]⟩
abbrev S5120x32 : Shape := ⟨2, ![5120, 32]⟩
abbrev S5120x224 : Shape := ⟨2, ![5120, 224]⟩
abbrev S160x5120 : Shape := ⟨2, ![160, 5120]⟩
abbrev S5120x2560 : Shape := ⟨2, ![5120, 2560]⟩
abbrev S_ : Shape := ⟨0, ![]⟩
abbrev S3x128x5120 : Shape := ⟨3, ![3, 128, 5120]⟩

class Facts : Prop where
  bcast_S_S1x1x128x2560 : S_.BroadcastsInDim S1x1x128x2560 (![] : Fin 0 → Fin S1x1x128x2560.rank)
  reducesTo_S1x1x128x2560_S_d0_1_2_3 : S1x1x128x2560.ReducesTo [0, 1, 2, 3] S_
  h_S_ : 0 < S_.numel
  slices_S4x128x5120_S3x128x5120_1_0_0 : S4x128x5120.Slices ![1, 0, 0] S3x128x5120
  bcast_S_S3x128x5120 : S_.BroadcastsInDim S3x128x5120 (![] : Fin 0 → Fin S3x128x5120.rank)
  reducesTo_S3x128x5120_S_d0_1_2 : S3x128x5120.ReducesTo [0, 1, 2] S_
  bcast_S_S2560x5120 : S_.BroadcastsInDim S2560x5120 (![] : Fin 0 → Fin S2560x5120.rank)
  reducesTo_S2560x5120_S_d0_1 : S2560x5120.ReducesTo [0, 1] S_
  bcast_S_S4x5120 : S_.BroadcastsInDim S4x5120 (![] : Fin 0 → Fin S4x5120.rank)
  reducesTo_S4x5120_S_d0_1 : S4x5120.ReducesTo [0, 1] S_
  bcast_S_S5120 : S_.BroadcastsInDim S5120 (![] : Fin 0 → Fin S5120.rank)
  reducesTo_S5120_S_d0 : S5120.ReducesTo [0] S_
  bcast_S_S5120x224 : S_.BroadcastsInDim S5120x224 (![] : Fin 0 → Fin S5120x224.rank)
  reducesTo_S5120x224_S_d0_1 : S5120x224.ReducesTo [0, 1] S_
  bcast_S_S160x5120 : S_.BroadcastsInDim S160x5120 (![] : Fin 0 → Fin S160x5120.rank)
  reducesTo_S160x5120_S_d0_1 : S160x5120.ReducesTo [0, 1] S_

variable [Facts]

def fn_part2 {F : FTy → Type} [FloatOps F] (main_arg10 : FVec F S5120 .f32) (main_v29 : IVec S_ 1) (main_v33 : IVec S_ 1) : IVec S_ 1 :=
  let main_v34 : IVec S_ 1 := andi main_v29 main_v33
  let main_v35 : FVec F S5120 .f32 := Host.absf main_arg10
  let main_cst_12 : FVec F S_ .f32 := constant S_ .f32 0x7F800000#32
  let main_v36 : FVec F S5120 .f32 := broadcastInDim S5120 ![] bcast_S_S5120 main_cst_12
  let main_v37 : IVec S5120 1 := cmpf .olt main_v35 main_v36
  let main_c_13 : IVec S_ 1 := constantI S_ 1 1#1
  let main_v38 : IVec S_ 1 := (fun x v => Host.reduce IntOp.andi x v reducesTo_S5120_S_d0 h_S_) main_v37 main_c_13
  let main_v39 : IVec S_ 1 := andi main_v34 main_v38
  main_v39

def fn_part1 {F : FTy → Type} [FloatOps F] (main_arg6 : FVec F S5120 .f32) (main_arg8 : FVec F S5120x224 .f32) (main_arg9 : FVec F S160x5120 .f32) (main_arg10 : FVec F S5120 .f32) (main_v14 : IVec S_ 1) (main_v15 : FVec F S4x5120 .f32) (main_v16 : FVec F S4x5120 .f32) : IVec S_ 1 :=
  let main_v17 : IVec S4x5120 1 := cmpf .olt main_v15 main_v16
  let main_c_5 : IVec S_ 1 := constantI S_ 1 1#1
  let main_v18 : IVec S_ 1 := (fun x v => Host.reduce IntOp.andi x v reducesTo_S4x5120_S_d0_1 h_S_) main_v17 main_c_5
  let main_v19 : IVec S_ 1 := andi main_v14 main_v18
  let main_v20 : FVec F S5120 .f32 := Host.absf main_arg6
  let main_cst_6 : FVec F S_ .f32 := constant S_ .f32 0x7F800000#32
  let main_v21 : FVec F S5120 .f32 := broadcastInDim S5120 ![] bcast_S_S5120 main_cst_6
  let main_v22 : IVec S5120 1 := cmpf .olt main_v20 main_v21
  let main_c_7 : IVec S_ 1 := constantI S_ 1 1#1
  let main_v23 : IVec S_ 1 := (fun x v => Host.reduce IntOp.andi x v reducesTo_S5120_S_d0 h_S_) main_v22 main_c_7
  let main_v24 : IVec S_ 1 := andi main_v19 main_v23
  let main_v25 : FVec F S5120x224 .f32 := Host.absf main_arg8
  let main_cst_8 : FVec F S_ .f32 := constant S_ .f32 0x7F800000#32
  let main_v26 : FVec F S5120x224 .f32 := broadcastInDim S5120x224 ![] bcast_S_S5120x224 main_cst_8
  let main_v27 : IVec S5120x224 1 := cmpf .olt main_v25 main_v26
  let main_c_9 : IVec S_ 1 := constantI S_ 1 1#1
  let main_v28 : IVec S_ 1 := (fun x v => Host.reduce IntOp.andi x v reducesTo_S5120x224_S_d0_1 h_S_) main_v27 main_c_9
  let main_v29 : IVec S_ 1 := andi main_v24 main_v28
  let main_v30 : FVec F S160x5120 .f32 := Host.absf main_arg9
  let main_cst_10 : FVec F S_ .f32 := constant S_ .f32 0x7F800000#32
  let main_v31 : FVec F S160x5120 .f32 := broadcastInDim S160x5120 ![] bcast_S_S160x5120 main_cst_10
  let main_v32 : IVec S160x5120 1 := cmpf .olt main_v30 main_v31
  let main_c_11 : IVec S_ 1 := constantI S_ 1 1#1
  let main_v33 : IVec S_ 1 := (fun x v => Host.reduce IntOp.andi x v reducesTo_S160x5120_S_d0_1 h_S_) main_v32 main_c_11
  fn_part2 (F := F) main_arg10 main_v29 main_v33

def fn {F : FTy → Type} [FloatOps F] (main_arg0 : FVec F S1x1x128x2560 .f32) (main_arg1 : FVec F S4x128x5120 .f32) (main_arg2 : FVec F S128x5120x32 .f32) (main_arg3 : FVec F S2560x5120 .f32) (main_arg4 : FVec F S2560x5120 .f32) (main_arg5 : FVec F S4x5120 .f32) (main_arg6 : FVec F S5120 .f32) (main_arg7 : FVec F S5120x32 .f32) (main_arg8 : FVec F S5120x224 .f32) (main_arg9 : FVec F S160x5120 .f32) (main_arg10 : FVec F S5120 .f32) (main_arg11 : FVec F S5120 .f32) (main_arg12 : FVec F S5120x2560 .f32) : IVec S_ 1 :=
  let main_v0 : FVec F S1x1x128x2560 .f32 := Host.absf main_arg0
  let main_cst : FVec F S_ .f32 := constant S_ .f32 0x7F800000#32
  let main_v1 : FVec F S1x1x128x2560 .f32 := broadcastInDim S1x1x128x2560 ![] bcast_S_S1x1x128x2560 main_cst
  let main_v2 : IVec S1x1x128x2560 1 := cmpf .olt main_v0 main_v1
  let main_c : IVec S_ 1 := constantI S_ 1 1#1
  let main_v3 : IVec S_ 1 := (fun x v => Host.reduce IntOp.andi x v reducesTo_S1x1x128x2560_S_d0_1_2_3 h_S_) main_v2 main_c
  let main_v4 : FVec F S3x128x5120 .f32 := (extractStridedSlice S3x128x5120 ![1, 0, 0] · slices_S4x128x5120_S3x128x5120_1_0_0) main_arg1
  let main_v5 : FVec F S3x128x5120 .f32 := Host.absf main_v4
  let main_cst_0 : FVec F S_ .f32 := constant S_ .f32 0x7F800000#32
  let main_v6 : FVec F S3x128x5120 .f32 := broadcastInDim S3x128x5120 ![] bcast_S_S3x128x5120 main_cst_0
  let main_v7 : IVec S3x128x5120 1 := cmpf .olt main_v5 main_v6
  let main_c_1 : IVec S_ 1 := constantI S_ 1 1#1
  let main_v8 : IVec S_ 1 := (fun x v => Host.reduce IntOp.andi x v reducesTo_S3x128x5120_S_d0_1_2 h_S_) main_v7 main_c_1
  let main_v9 : IVec S_ 1 := andi main_v3 main_v8
  let main_v10 : FVec F S2560x5120 .f32 := Host.absf main_arg3
  let main_cst_2 : FVec F S_ .f32 := constant S_ .f32 0x7F800000#32
  let main_v11 : FVec F S2560x5120 .f32 := broadcastInDim S2560x5120 ![] bcast_S_S2560x5120 main_cst_2
  let main_v12 : IVec S2560x5120 1 := cmpf .olt main_v10 main_v11
  let main_c_3 : IVec S_ 1 := constantI S_ 1 1#1
  let main_v13 : IVec S_ 1 := (fun x v => Host.reduce IntOp.andi x v reducesTo_S2560x5120_S_d0_1 h_S_) main_v12 main_c_3
  let main_v14 : IVec S_ 1 := andi main_v9 main_v13
  let main_v15 : FVec F S4x5120 .f32 := Host.absf main_arg5
  let main_cst_4 : FVec F S_ .f32 := constant S_ .f32 0x7F800000#32
  let main_v16 : FVec F S4x5120 .f32 := broadcastInDim S4x5120 ![] bcast_S_S4x5120 main_cst_4
  fn_part1 (F := F) main_arg6 main_arg8 main_arg9 main_arg10 main_v14 main_v15 main_v16
-- ==== Kernel.lean ====
abbrev S1x1x128x2560 : Shape := ⟨4, ![1, 1, 128, 2560]⟩
abbrev S4x128x5120 : Shape := ⟨3, ![4, 128, 5120]⟩
abbrev S128x5120x32 : Shape := ⟨3, ![128, 5120, 32]⟩
abbrev S2560x5120 : Shape := ⟨2, ![2560, 5120]⟩
abbrev S4x5120 : Shape := ⟨2, ![4, 5120]⟩
abbrev S5120 : Shape := ⟨1, ![5120]⟩
abbrev S5120x32 : Shape := ⟨2, ![5120, 32]⟩
abbrev S5120x224 : Shape := ⟨2, ![5120, 224]⟩
abbrev S160x5120 : Shape := ⟨2, ![160, 5120]⟩
abbrev S5120x2560 : Shape := ⟨2, ![5120, 2560]⟩
abbrev S128x2560 : Shape := ⟨2, ![128, 2560]⟩
abbrev S1x5120 : Shape := ⟨2, ![1, 5120]⟩
abbrev S224x5120 : Shape := ⟨2, ![224, 5120]⟩
abbrev S512x5120 : Shape := ⟨2, ![512, 5120]⟩
abbrev S128x5120 : Shape := ⟨2, ![128, 5120]⟩
abbrev S128x224 : Shape := ⟨2, ![128, 224]⟩
abbrev S2560x512 : Shape := ⟨2, ![2560, 512]⟩
abbrev S128x512 : Shape := ⟨2, ![128, 512]⟩
abbrev S256x512 : Shape := ⟨2, ![256, 512]⟩
abbrev S4x512 : Shape := ⟨2, ![4, 512]⟩
abbrev S1x512 : Shape := ⟨2, ![1, 512]⟩
abbrev S224x512 : Shape := ⟨2, ![224, 512]⟩
abbrev S128x32x5120 : Shape := ⟨3, ![128, 32, 5120]⟩
abbrev S32x5120 : Shape := ⟨2, ![32, 5120]⟩
abbrev S160x512 : Shape := ⟨2, ![160, 512]⟩
abbrev S32x512 : Shape := ⟨2, ![32, 512]⟩
abbrev S128x32x512 : Shape := ⟨3, ![128, 32, 512]⟩
abbrev S512x2560 : Shape := ⟨2, ![512, 2560]⟩
abbrev S128x160 : Shape := ⟨2, ![128, 160]⟩
abbrev S128x32 : Shape := ⟨2, ![128, 32]⟩
abbrev S128x1x512 : Shape := ⟨3, ![128, 1, 512]⟩
abbrev S1x32x512 : Shape := ⟨3, ![1, 32, 512]⟩
abbrev S128x32x1 : Shape := ⟨3, ![128, 32, 1]⟩
abbrev S128 : Shape := ⟨1, ![128]⟩
abbrev S128x1 : Shape := ⟨2, ![128, 1]⟩

abbrev nBuf : Space → Nat
  | .hbm => 26
  | .vmem => 38
  | .smem => 0
  | _ => 0

abbrev bufTy : (tb : Table) → Fin (tcTables nBuf tb) → BufTy
  | .hbm, ⟨0, _⟩ => ⟨S1x1x128x2560, .f32⟩
  | .hbm, ⟨1, _⟩ => ⟨S4x128x5120, .f32⟩
  | .hbm, ⟨2, _⟩ => ⟨S128x5120x32, .f32⟩
  | .hbm, ⟨3, _⟩ => ⟨S2560x5120, .f32⟩
  | .hbm, ⟨4, _⟩ => ⟨S2560x5120, .f32⟩
  | .hbm, ⟨5, _⟩ => ⟨S4x5120, .f32⟩
  | .hbm, ⟨6, _⟩ => ⟨S5120, .f32⟩
  | .hbm, ⟨7, _⟩ => ⟨S5120x32, .f32⟩
  | .hbm, ⟨8, _⟩ => ⟨S5120x224, .f32⟩
  | .hbm, ⟨9, _⟩ => ⟨S160x5120, .f32⟩
  | .hbm, ⟨10, _⟩ => ⟨S5120, .f32⟩
  | .hbm, ⟨11, _⟩ => ⟨S5120, .f32⟩
  | .hbm, ⟨12, _⟩ => ⟨S5120x2560, .f32⟩
  | .hbm, ⟨13, _⟩ => ⟨S128x2560, .f32⟩
  | .hbm, ⟨14, _⟩ => ⟨S1x5120, .f32⟩
  | .hbm, ⟨15, _⟩ => ⟨S224x5120, .f32⟩
  | .hbm, ⟨16, _⟩ => ⟨S512x5120, .f32⟩
  | .hbm, ⟨17, _⟩ => ⟨S128x5120, .f32⟩
  | .hbm, ⟨18, _⟩ => ⟨S128x5120, .f32⟩
  | .hbm, ⟨19, _⟩ => ⟨S128x224, .f32⟩
  | .hbm, ⟨20, _⟩ => ⟨S128x32x5120, .f32⟩
  | .hbm, ⟨21, _⟩ => ⟨S32x5120, .f32⟩
  | .hbm, ⟨22, _⟩ => ⟨S1x5120, .f32⟩
  | .hbm, ⟨23, _⟩ => ⟨S1x5120, .f32⟩
  | .hbm, ⟨24, _⟩ => ⟨S128x2560, .f32⟩
  | .hbm, ⟨25, _⟩ => ⟨S1x1x128x2560, .f32⟩
  | .local _ .vmem, ⟨0, _⟩ => ⟨S128x2560, .f32⟩
  | .local _ .vmem, ⟨1, _⟩ => ⟨S2560x512, .f32⟩
  | .local _ .vmem, ⟨2, _⟩ => ⟨S2560x512, .f32⟩
  | .local _ .vmem, ⟨3, _⟩ => ⟨S2560x512, .f32⟩
  | .local _ .vmem, ⟨4, _⟩ => ⟨S2560x512, .f32⟩
  | .local _ .vmem, ⟨5, _⟩ => ⟨S128x512, .f32⟩
  | .local _ .vmem, ⟨6, _⟩ => ⟨S128x512, .f32⟩
  | .local _ .vmem, ⟨7, _⟩ => ⟨S256x512, .f32⟩
  | .local _ .vmem, ⟨8, _⟩ => ⟨S256x512, .f32⟩
  | .local _ .vmem, ⟨9, _⟩ => ⟨S4x512, .f32⟩
  | .local _ .vmem, ⟨10, _⟩ => ⟨S4x512, .f32⟩
  | .local _ .vmem, ⟨11, _⟩ => ⟨S1x512, .f32⟩
  | .local _ .vmem, ⟨12, _⟩ => ⟨S1x512, .f32⟩
  | .local _ .vmem, ⟨13, _⟩ => ⟨S224x512, .f32⟩
  | .local _ .vmem, ⟨14, _⟩ => ⟨S224x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x224, .f32⟩
  | .local _ .vmem, ⟨20, _⟩ => ⟨S128x224, .f32⟩
  | .local _ .vmem, ⟨21, _⟩ => ⟨S160x512, .f32⟩
  | .local _ .vmem, ⟨22, _⟩ => ⟨S160x512, .f32⟩
  | .local _ .vmem, ⟨23, _⟩ => ⟨S1x512, .f32⟩
  | .local _ .vmem, ⟨24, _⟩ => ⟨S1x512, .f32⟩
  | .local _ .vmem, ⟨25, _⟩ => ⟨S32x512, .f32⟩
  | .local _ .vmem, ⟨26, _⟩ => ⟨S32x512, .f32⟩
  | .local _ .vmem, ⟨27, _⟩ => ⟨S128x32x512, .f32⟩
  | .local _ .vmem, ⟨28, _⟩ => ⟨S128x32x512, .f32⟩
  | .local _ .vmem, ⟨29, _⟩ => ⟨S128x512, .f32⟩
  | .local _ .vmem, ⟨30, _⟩ => ⟨S128x512, .f32⟩
  | .local _ .vmem, ⟨31, _⟩ => ⟨S128x512, .f32⟩
  | .local _ .vmem, ⟨32, _⟩ => ⟨S128x512, .f32⟩
  | .local _ .vmem, ⟨33, _⟩ => ⟨S1x512, .f32⟩
  | .local _ .vmem, ⟨34, _⟩ => ⟨S1x512, .f32⟩
  | .local _ .vmem, ⟨35, _⟩ => ⟨S512x2560, .f32⟩
  | .local _ .vmem, ⟨36, _⟩ => ⟨S512x2560, .f32⟩
  | .local _ .vmem, ⟨37, _⟩ => ⟨S128x2560, .f32⟩
  | _, _ => ⟨S1x1x128x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc1_sem0_0 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem8_1 : DmaSem sig := 36
abbrev cc1_sem9_0 : DmaSem sig := 37

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_22 : BitVec 32 := 0#32
  let v43 : BitVec 1 := Scalar.cmpi .ne v42 c0_i32_22
  v43

def k0_cond2 (i : grid0.Coords) : BitVec 1 :=
  let arg0 : BitVec 32 := BitVec.ofNat 32 (i 0).val
  let c0_i32_23 : BitVec 32 := 0#32
  let v44 : BitVec 1 := Scalar.cmpi .ne arg0 c0_i32_23
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x224 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![10], ![false]⟩

def k1_cond1 (i : grid1.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_24 : BitVec 32 := 0#32
  let v64 : BitVec 1 := Scalar.cmpi .ne v63 c0_i32_24
  v64

def k1_cond2 (i : grid1.Coords) : BitVec 1 :=
  let arg0 : BitVec 32 := BitVec.ofNat 32 (i 0).val
  let c0_i32_25 : BitVec 32 := 0#32
  let v65 : BitVec 1 := Scalar.cmpi .ne arg0 c0_i32_25
  let v66 : BitVec 32 := Scalar.extui v65
  let c0_i32_26 : BitVec 32 := 0#32
  let v67 : BitVec 1 := Scalar.cmpi .ne v66 c0_i32_26
  v67

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x224 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S160x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x32x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x2560 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S128x2560 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S1x1x128x2560 : Shape := ⟨4, ![1, 1, 128, 2560]⟩
abbrev S4x128x5120 : Shape := ⟨3, ![4, 128, 5120]⟩
abbrev S128x5120x32 : Shape := ⟨3, ![128, 5120, 32]⟩
abbrev S2560x5120 : Shape := ⟨2, ![2560, 5120]⟩
abbrev S4x5120 : Shape := ⟨2, ![4, 5120]⟩
abbrev S5120 : Shape := ⟨1, ![5120]⟩
abbrev S5120x32 : Shape := ⟨2, ![5120, 32]⟩
abbrev S5120x224 : Shape := ⟨2, ![5120, 224]⟩
abbrev S160x5120 : Shape := ⟨2, ![160, 5120]⟩
abbrev S5120x2560 : Shape := ⟨2, ![5120, 2560]⟩
abbrev S128x2560 : Shape := ⟨2, ![128, 2560]⟩
abbrev S128x5120 : Shape := ⟨2, ![128, 5120]⟩
abbrev S_ : Shape := ⟨0, ![]⟩
abbrev S3x128x5120 : Shape := ⟨3, ![3, 128, 5120]⟩
abbrev S1x128x5120 : Shape := ⟨3, ![1, 128, 5120]⟩
abbrev S5120x128 : Shape := ⟨2, ![5120, 128]⟩
abbrev S1x5120 : Shape := ⟨2, ![1, 5120]⟩
abbrev S128x224 : Shape := ⟨2, ![128, 224]⟩
abbrev S128x160 : Shape := ⟨2, ![128, 160]⟩
abbrev S128x32 : Shape := ⟨2, ![128, 32]⟩
abbrev S128x5120x1 : Shape := ⟨3, ![128, 5120, 1]⟩
abbrev S1x5120x32 : Shape := ⟨3, ![1, 5120, 32]⟩
abbrev S128x1x32 : Shape := ⟨3, ![128, 1, 32]⟩

abbrev nBuf : Space → Nat
  | .hbm => 90
  | .vmem => 0
  | .smem => 0
  | _ => 0

abbrev bufTy : (tb : Table) → Fin (tcTables nBuf tb) → BufTy
  | .hbm, ⟨0, _⟩ => ⟨S1x1x128x2560, .f32⟩
  | .hbm, ⟨1, _⟩ => ⟨S4x128x5120, .f32⟩
  | .hbm, ⟨2, _⟩ => ⟨S128x5120x32, .f32⟩
  | .hbm, ⟨3, _⟩ => ⟨S2560x5120, .f32⟩
  | .hbm, ⟨4, _⟩ => ⟨S2560x5120, .f32⟩
  | .hbm, ⟨5, _⟩ => ⟨S4x5120, .f32⟩
  | .hbm, ⟨6, _⟩ => ⟨S5120, .f32⟩
  | .hbm, ⟨7, _⟩ => ⟨S5120x32, .f32⟩
  | .hbm, ⟨8, _⟩ => ⟨S5120x224, .f32⟩
  | .hbm, ⟨9, _⟩ => ⟨S160x5120, .f32⟩
  | .hbm, ⟨10, _⟩ => ⟨S5120, .f32⟩
  | .hbm, ⟨11, _⟩ => ⟨S5120, .f32⟩
  | .hbm, ⟨12, _⟩ => ⟨S5120x2560, .f32⟩
  | .hbm, ⟨13, _⟩ => ⟨S128x2560, .f32⟩
  | .hbm, ⟨14, _⟩ => ⟨S128x5120, .f32⟩
  | .hbm, ⟨15, _⟩ => ⟨S128x5120, .f32⟩
  | .hbm, ⟨16, _⟩ => ⟨S128x5120, .f32⟩
  | .hbm, ⟨17, _⟩ => ⟨S_, .f32⟩
  | .hbm, ⟨18, _⟩ => ⟨S128x5120, .f32⟩
  | .hbm, ⟨19, _⟩ => ⟨S128x5120, .f32⟩
  | .hbm, ⟨20, _⟩ => ⟨S_, .f32⟩
  | .hbm, ⟨21, _⟩ => ⟨S128x5120, .f32⟩
  | .hbm, ⟨22, _⟩ => ⟨S128x5120, .f32⟩
  | .hbm, ⟨23, _⟩ => ⟨S128x5120, .f32⟩
  | .hbm, ⟨24, _⟩ => ⟨S128x5120, .f32⟩
  | .hbm, ⟨25, _⟩ => ⟨S3x128x5120, .f32⟩
  | .hbm, ⟨26, _⟩ => ⟨S1x128x5120, .f32⟩
  | .hbm, ⟨27, _⟩ => ⟨S4x128x5120, .f32⟩
  | .hbm, ⟨28, _⟩ => ⟨S5120x128, .f32⟩
  | .hbm, ⟨29, _⟩ => ⟨S128x5120, .f32⟩
  | .hbm, ⟨30, _⟩ => ⟨S1x5120, .f32⟩
  | .hbm, ⟨31, _⟩ => ⟨S128x5120, .f32⟩
  | .hbm, ⟨32, _⟩ => ⟨S128x5120, .f32⟩
  | .hbm, ⟨33, _⟩ => ⟨S128x5120, .f32⟩
  | .hbm, ⟨34, _⟩ => ⟨S128x5120, .f32⟩
  | .hbm, ⟨35, _⟩ => ⟨S_, .f32⟩
  | .hbm, ⟨36, _⟩ => ⟨S128x5120, .f32⟩
  | .hbm, ⟨37, _⟩ => ⟨S128x5120, .f32⟩
  | .hbm, ⟨38, _⟩ => ⟨S_, .f32⟩
  | .hbm, ⟨39, _⟩ => ⟨S128x5120, .f32⟩
  | .hbm, ⟨40, _⟩ => ⟨S128x5120, .f32⟩
  | .hbm, ⟨41, _⟩ => ⟨S128x5120, .f32⟩
  | .hbm, ⟨42, _⟩ => ⟨S128x224, .f32⟩
  | .hbm, ⟨43, _⟩ => ⟨S128x160, .f32⟩
  | .hbm, ⟨44, _⟩ => ⟨S128x5120, .f32⟩
  | .hbm, ⟨45, _⟩ => ⟨S1x5120, .f32⟩
  | .hbm, ⟨46, _⟩ => ⟨S128x5120, .f32⟩
  | .hbm, ⟨47, _⟩ => ⟨S128x5120, .f32⟩
  | .hbm, ⟨48, _⟩ => ⟨S_, .f32⟩
  | .hbm, ⟨49, _⟩ => ⟨S128x5120, .f32⟩
  | .hbm, ⟨50, _⟩ => ⟨S128x5120, .f32⟩
  | .hbm, ⟨51, _⟩ => ⟨S128x5120, .f32⟩
  | .hbm, ⟨52, _⟩ => ⟨S128x5120, .f32⟩
  | .hbm, ⟨53, _⟩ => ⟨S128x5120, .i1⟩
  | .hbm, ⟨54, _⟩ => ⟨S128x5120, .f32⟩
  | .hbm, ⟨55, _⟩ => ⟨S128x5120, .f32⟩
  | .hbm, ⟨56, _⟩ => ⟨S128x5120, .f32⟩
  | .hbm, ⟨57, _⟩ => ⟨S128x5120, .f32⟩
  | .hbm, ⟨58, _⟩ => ⟨S128x5120, .f32⟩
  | .hbm, ⟨59, _⟩ => ⟨S128x5120, .f32⟩
  | .hbm, ⟨60, _⟩ => ⟨S128x5120, .f32⟩
  | .hbm, ⟨61, _⟩ => ⟨S128x5120, .f32⟩
  | .hbm, ⟨62, _⟩ => ⟨S128x32, .f32⟩
  | .hbm, ⟨63, _⟩ => ⟨S128x32, .f32⟩
  | .hbm, ⟨64, _⟩ => ⟨S5120x32, .f32⟩
  | .hbm, ⟨65, _⟩ => ⟨S5120x32, .f32⟩
  | .hbm, ⟨66, _⟩ => ⟨S128x5120x1, .f32⟩
  | .hbm, ⟨67, _⟩ => ⟨S1x5120x32, .f32⟩
  | .hbm, ⟨68, _⟩ => ⟨S128x5120x32, .f32⟩
  | .hbm, ⟨69, _⟩ => ⟨S128x5120x32, .f32⟩
  | .hbm, ⟨70, _⟩ => ⟨S128x5120x32, .f32⟩
  | .hbm, ⟨71, _⟩ => ⟨S128x5120x32, .f32⟩
  | .hbm, ⟨72, _⟩ => ⟨S128x5120x1, .f32⟩
  | .hbm, ⟨73, _⟩ => ⟨S128x1x32, .f32⟩
  | .hbm, ⟨74, _⟩ => ⟨S128x5120x32, .f32⟩
  | .hbm, ⟨75, _⟩ => ⟨S128x5120x32, .f32⟩
  | .hbm, ⟨76, _⟩ => ⟨S128x5120x32, .f32⟩
  | .hbm, ⟨77, _⟩ => ⟨S128x5120x1, .f32⟩
  | .hbm, ⟨78, _⟩ => ⟨S128x5120x32, .f32⟩
  | .hbm, ⟨79, _⟩ => ⟨S128x5120x32, .f32⟩
  | .hbm, ⟨80, _⟩ => ⟨S128x5120x32, .f32⟩
  | .hbm, ⟨81, _⟩ => ⟨S128x5120x32, .f32⟩
  | .hbm, ⟨82, _⟩ => ⟨S128x5120, .f32⟩
  | .hbm, ⟨83, _⟩ => ⟨S1x5120, .f32⟩
  | .hbm, ⟨84, _⟩ => ⟨S128x5120, .f32⟩
  | .hbm, ⟨85, _⟩ => ⟨S128x5120, .f32⟩
  | .hbm, ⟨86, _⟩ => ⟨S128x5120, .f32⟩
  | .hbm, ⟨87, _⟩ => ⟨S128x5120, .f32⟩
  | .hbm, ⟨88, _⟩ => ⟨S128x2560, .f32⟩
  | .hbm, ⟨89, _⟩ => ⟨S1x1x128x2560, .f32⟩
  | _, _ => ⟨S1x1x128x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩

abbrev nD : Nat := 1
abbrev τ : Topo := Topo.v7x

variable {F : FTy → Type} [FloatOps F]
-- ==== Proof.Reference.lean ====
/- The reference: what its run leaves in its result, as one composed term of the arguments cut into named steps, and its frame. -/
module

public import proofs.«01_k».proof.Defs
public import proofs.«01_k».proof.Proof.Gen.ReferenceIdeal
public import Idealize.ShloMosaic.Lib.Claim
public import Idealize.ShloMosaic.Adequacy
public import Idealize.ShloMosaic.Init

@[expose] public section

noncomputable section

namespace Cert.ReferenceIdeal.Decode

open Idealize.ShloMosaic Idealize.SL.Sem Cert.ReferenceIdeal Cert.ReferenceIdeal.Gen

/-- The constant array of one word over a [128, 5120] array. -/
def fill (b : BitVec 32) : FVec Ideal S128x5120 .f32 :=
  broadcastInDim S128x5120 ![] bcast_S_S128x5120 (constant S_ .f32 b)

/-- `jax.nn.silu` as the reference computes it: `z * (1 / (1 + exp (-z)))`. -/
def siluR (z : FVec Ideal S128x5120 .f32) : FVec Ideal S128x5120 .f32 :=
  mulf z (Host.divf (fill 0x3F800000#32) (addf (fill 0x3F800000#32) (Host.exp (Host.negf z))))

/-- `jax.nn.softplus` as the reference computes it. -/
def softplusR (z : FVec Ideal S128x5120 .f32) : FVec Ideal S128x5120 .f32 :=
  select (cmpf .une (subf z (fill 0x00000000#32)) (subf z (fill 0x00000000#32))) (addf z (fill 0x00000000#32))
    (addf (maximumf z (fill 0x00000000#32)) (Host.log1p (Host.exp (Host.negf (Host.absf (subf z (fill 0x00000000#32)))))))

/-- A row of 5120 entries repeated over the 128 batch rows. -/
def rowsOf (v : FVec Ideal S5120 .f32) : FVec Ideal S128x5120 .f32 :=
  broadcastInDim S128x5120 ![0, 1] bcast_S1x5120_S128x5120_0_1 (broadcastInDim S1x5120 ![1] bcast_S5120_S1x5120_1 v)

/-- One half of the input projection, `x @ w`. -/
def projR (x : FVec Ideal S1x1x128x2560 .f32) (w : FVec Ideal S2560x5120 .f32) : FVec Ideal S128x5120 .f32 :=
  Host.dotGeneral dot_S128x2560_S2560x5120_S128x5120_1_0_0_1_n_n none
    (shapeCast S128x2560 x shapeCasts_S1x1x128x2560_S128x2560) w

/-- The four convolution taps: the last three cached slots and the new projection. -/
def tapsR (x : FVec Ideal S1x1x128x2560 .f32) (cs : FVec Ideal S4x128x5120 .f32) (w : FVec Ideal S2560x5120 .f32) :
    FVec Ideal S4x128x5120 .f32 :=
  concatenate S4x128x5120 0
    [⟨S3x128x5120, extractStridedSlice S3x128x5120 ![1, 0, 0] cs slices_S4x128x5120_S3x128x5120_1_0_0⟩,
     ⟨S1x128x5120, broadcastInDim S1x128x5120 ![1, 2] bcast_S128x5120_S1x128x5120_1_2 (projR x w)⟩]
    concatenates_S3x128x5120_S1x128x5120_S4x128x5120_d0

/-- The convolution's output with its bias, before the activation. -/
def convR (x : FVec Ideal S1x1x128x2560 .f32) (cs : FVec Ideal S4x128x5120 .f32) (w : FVec Ideal S2560x5120 .f32)
    (cw : FVec Ideal S4x5120 .f32) (cb : FVec Ideal S5120 .f32) : FVec Ideal S128x5120 .f32 :=
  addf (transpose S128x5120 [1, 0]
      (Host.dotGeneral dot_S4x5120_S4x128x5120_S5120x128_0_0_n_1_1_2 none cw (tapsR x cs w))
      transposes_S5120x128_S128x5120_1_0) (rowsOf cb)

/-- The projection of `u` to the step, input and output coefficients. -/
def dblR (u : FVec Ideal S128x5120 .f32) (xp : FVec Ideal S5120x224 .f32) : FVec Ideal S128x224 .f32 :=
  Host.dotGeneral dot_S128x5120_S5120x224_S128x224_1_0_0_1_n_n none u xp

/-- The step before softplus. -/
def stepR (dbl : FVec Ideal S128x224 .f32) (dw : FVec Ideal S160x5120 .f32) (db : FVec Ideal S5120 .f32) :
    FVec Ideal S128x5120 .f32 :=
  addf (Host.dotGeneral dot_S128x160_S160x5120_S128x5120_1_0_0_1_n_n none
      (extractStridedSlice S128x160 ![0, 0] dbl slices_S128x224_S128x160_0_0) dw) (rowsOf db)

/-- A [128, 5120] array repeated along the state axis. -/
def overStates (z : FVec Ideal S128x5120 .f32) : FVec Ideal S128x5120x32 .f32 :=
  broadcastInDim S128x5120x32 ![0, 1, 2] bcast_S128x5120x1_S128x5120x32_0_1_2
    (broadcastInDim S128x5120x1 ![0, 1] bcast_S128x5120_S128x5120x1_0_1 z)

/-- The decay `exp (dt * (-exp A_log))`. -/
def decayR (dt : FVec Ideal S128x5120 .f32) (al : FVec Ideal S5120x32 .f32) : FVec Ideal S128x5120x32 .f32 :=
  Host.exp (mulf (overStates dt)
    (broadcastInDim S128x5120x32 ![0, 1, 2] bcast_S1x5120x32_S128x5120x32_0_1_2
      (broadcastInDim S1x5120x32 ![1, 2] bcast_S5120x32_S1x5120x32_1_2 (Host.negf (Host.exp al)))))

/-- What the step adds to the state, `dt * Bm * u`. -/
def driveR (dt : FVec Ideal S128x5120 .f32) (dbl : FVec Ideal S128x224 .f32) (u : FVec Ideal S128x5120 .f32) :
    FVec Ideal S128x5120x32 .f32 :=
  mulf (mulf (overStates dt)
    (broadcastInDim S128x5120x32 ![0, 1, 2] bcast_S128x1x32_S128x5120x32_0_1_2
      (broadcastInDim S128x1x32 ![0, 2] bcast_S128x32_S128x1x32_0_2
        (extractStridedSlice S128x32 ![0, 160] dbl slices_S128x224_S128x32_0_160)))) (overStates u)

/-- The state-space output `y`, the skip term `D * u` included. -/
def outR (dt : FVec Ideal S128x5120 .f32) (dbl : FVec Ideal S128x224 .f32) (u : FVec Ideal S128x5120 .f32)
    (st : FVec Ideal S128x5120x32 .f32) (al : FVec Ideal S5120x32 .f32) (d : FVec Ideal S5120 .f32) :
    FVec Ideal S128x5120 .f32 :=
  addf (Host.dotGeneral dot_S128x5120x32_S128x32_S128x5120_2_1_1_n_0_0 none
      (addf (mulf (decayR dt al) st) (driveR dt dbl u))
      (extractStridedSlice S128x32 ![0, 192] dbl slices_S128x224_S128x32_0_192))
    (mulf (rowsOf d) u)

/-- The reference's result before its last reshape. -/
def lastR (y res : FVec Ideal S128x5120 .f32) (ow : FVec Ideal S5120x2560 .f32) : FVec Ideal S128x2560 .f32 :=
  Host.dotGeneral dot_S128x5120_S5120x2560_S128x2560_1_0_0_1_n_n none (mulf y res) ow

/-- `u` of the arguments. -/
def uOf (x : FVec Ideal S1x1x128x2560 .f32) (cs : FVec Ideal S4x128x5120 .f32) (w : FVec Ideal S2560x5120 .f32)
    (cw : FVec Ideal S4x5120 .f32) (cb : FVec Ideal S5120 .f32) : FVec Ideal S128x5120 .f32 := siluR (convR x cs w cw cb)

/-- The reference's result, of `u` and the other arguments. -/
def resultR (u : FVec Ideal S128x5120 .f32) (x : FVec Ideal S1x1x128x2560 .f32) (st : FVec Ideal S128x5120x32 .f32)
    (wm : FVec Ideal S2560x5120 .f32) (al : FVec Ideal S5120x32 .f32) (xp : FVec Ideal S5120x224 .f32)
    (dw : FVec Ideal S160x5120 .f32) (db : FVec Ideal S5120 .f32) (d : FVec Ideal S5120 .f32)
    (ow : FVec Ideal S5120x2560 .f32) : FVec Ideal S1x1x128x2560 .f32 :=
  shapeCast S1x1x128x2560
    (lastR (outR (softplusR (stepR (dblR u xp) dw db)) (dblR u xp) u st al d) (siluR (projR x wm)) ow)
    shapeCasts_S128x2560_S1x1x128x2560

set_option maxRecDepth 8000 in
set_option maxHeartbeats 1600000 in
/-- From any memory with zero counters the reference runs to completion, its result is `resultR` of the arguments,
    and the arguments end unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v47)
        = resultR (uOf (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)))
          (m ((c.tc : Thread nD τ).loc main_arg0)) (m ((c.tc : Thread nD τ).loc main_arg2)) (m ((c.tc : Thread nD τ).loc main_arg4)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  hlo_run
  rfl

/-- The reference's frame: its arguments end unchanged; it declares no semaphore. -/
theorem frame : Cert.quiescent_ReferenceIdeal := fun m g _ =>
  (θ_run Cert.ReferenceIdeal.defs _ _).mono
    (fun r h => ⟨fun c => (h c).2, Idealize.ShloMosaic.sem_eq_zero_of_no_sems (by decide) r.2⟩) (run m g)

end Cert.ReferenceIdeal.Decode

end
-- ==== Proof.Stage1Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block of columns holds -/

/-- The first and the second half of the rows of a block of 256 rows. -/
abbrev rowsLo : Rect S256x512 := Rect.unit (s := S256x512) ![0, 0] S128x512.size inb_S256x512_S128x512_0_0
abbrev rowsHi : Rect S256x512 := Rect.unit (s := S256x512) ![128, 0] S128x512.size inb_S256x512_S128x512_128_0

/-- The activated convolution on one block of columns: of the token `x0`, the projection's columns `x1`, the cached
    slots `x3` (the second) and `x4` (the third above the fourth), the taps `x5` and the bias `x6`. -/
def convBlk (x0 : Vec F S128x2560 .f32) (x1 : Vec F S2560x512 .f32) (x3 : Vec F S128x512 .f32) (x4 : Vec F S256x512 .f32)
    (x5 : Vec F S4x512 .f32) (x6 : Vec F S1x512 .f32) : Vec F S128x512 .f32 :=
  k0_pay5 x0 x1 x5 x3 (View.ld x4 rowsLo) (View.ld x4 rowsHi) x6

/-! ## The body -/

set_option maxHeartbeats 1000000 in
/-- The body on whole staging buffers at the first point: the inputs are left as they were,
    the blocks of the plain outputs and the accumulator hold their values of the inputs. -/
theorem body0_first (c : Dev nD) (E : Set ℕ) (i : grid0.Coords) (arg1 : Memref sig .tc .vmem S128x2560 .f32) (harg1 : arg1.IsWhole) (arg2 : Memref sig .tc .vmem S2560x512 .f32) (harg2 : arg2.IsWhole) (arg3 : Memref sig .tc .vmem S2560x512 .f32) (harg3 : arg3.IsWhole) (arg4 : Memref sig .tc .vmem S128x512 .f32) (harg4 : arg4.IsWhole) (arg5 : Memref sig .tc .vmem S256x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S224x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x224 .f32) (harg11 : arg11.IsWhole)
    (hc0 : k0_cond1 i = 1#1) (hc1 : ¬k0_cond2 i = 1#1) (x0 : Vec F S128x2560 .f32) (x1 : Vec F S2560x512 .f32) (x2 : Vec F S2560x512 .f32) (x3 : Vec F S128x512 .f32) (x4 : Vec F S256x512 .f32) (x5 : Vec F S4x512 .f32) (x6 : Vec F S1x512 .f32) (x7 : Vec F S224x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (convBlk x0 x1 x3 x4 x5 x6) ∗ owns (c : Thread nD τ) arg10 fullShare (k0_pay4 x0 x2) ∗ owns (c : Thread nD τ) arg11 fullShare (k0_pay1 (convBlk x0 x1 x3 x4 x5 x6) x7)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8 arg9 harg9 arg10 harg10 arg11 harg11) K := by
  simp only [cc0__stage1_body_eq_skeleton]; unfold cc0__stage1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1)
  sl_step
  iapply Hk
  isplitl [H0]; · iexists _; isplitr; (· ipureintro; exact harg1.read_unread _); iexact H0
  isplitl [H1]; · iexists _; isplitr; (· ipureintro; exact harg2.read_unread _); iexact H1
  isplitl [H2]; · iexists _; isplitr; (· ipureintro; exact harg3.read_unread _); iexact H2
  isplitl [H3]; · iexists _; isplitr; (· ipureintro; exact harg4.read_unread _); iexact H3
  isplitl [H4]; · iexists _; isplitr; (· ipureintro; exact harg5.read_unread _); iexact H4
  isplitl [H5]; · iexists _; isplitr; (· ipureintro; exact harg6.read_unread _); iexact H5
  isplitl [H6]; · iexists _; isplitr; (· ipureintro; exact harg7.read_unread _); iexact H6
  isplitl [H7]; · iexists _; isplitr; (· ipureintro; exact harg8.read_unread _); iexact H7
  isplitl [H8]
  · iexists _; isplitr; swap; (· iexact H8)
    ipureintro; refine (View.read_writes_eq_canon _ _ _ (fun y => View.cover_of_tiled _ S128x512.size (by rfl) y)).trans ?_
    simp (disch := decide) only [View.canon_cons_unit_lit', View.ld_unit_lit', View.readCov_unit_lit', View.readAt_eq_ld, Memref.IsWhole.read_unread, convBlk]
  isplitl [H9]
  · iexists _; isplitr; swap; (· iexact H9)
    ipureintro; refine (View.read_writes_eq_canon _ _ _ (fun y => View.cover_of_tiled _ S128x512.size (by rfl) y)).trans ?_
    delta body0_first.sl.r
    simp (disch := decide) only [View.canon_cons_unit_lit', View.ld_unit_lit', View.readCov_unit_lit', View.readAt_eq_ld, Memref.IsWhole.read_unread, convBlk]

  · iexists _; isplitr; swap; (· iexact H10)
    ipureintro; refine (View.read_writes_eq_canon _ _ _ (fun y => View.cover_of_tiled _ S128x224.size (by rfl) y)).trans ?_
    delta body0_first.sl.r_1
    simp (disch := decide) only [View.canon_cons_unit_lit', View.ld_unit_lit', View.readCov_unit_lit', View.readAt_eq_ld, Memref.IsWhole.read_unread, convBlk]

set_option maxHeartbeats 1000000 in
/-- The body on whole staging buffers at a later point, the accumulator holding `xo`: the inputs are left as they were,
    the blocks of the plain outputs and the accumulator hold their values of the inputs. -/
theorem body0_later (c : Dev nD) (E : Set ℕ) (i : grid0.Coords) (arg1 : Memref sig .tc .vmem S128x2560 .f32) (harg1 : arg1.IsWhole) (arg2 : Memref sig .tc .vmem S2560x512 .f32) (harg2 : arg2.IsWhole) (arg3 : Memref sig .tc .vmem S2560x512 .f32) (harg3 : arg3.IsWhole) (arg4 : Memref sig .tc .vmem S128x512 .f32) (harg4 : arg4.IsWhole) (arg5 : Memref sig .tc .vmem S256x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S224x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x224 .f32) (harg11 : arg11.IsWhole)
    (hc0 : ¬k0_cond1 i = 1#1) (hc1 : k0_cond2 i = 1#1) (x0 : Vec F S128x2560 .f32) (x1 : Vec F S2560x512 .f32) (x2 : Vec F S2560x512 .f32) (x3 : Vec F S128x512 .f32) (x4 : Vec F S256x512 .f32) (x5 : Vec F S4x512 .f32) (x6 : Vec F S1x512 .f32) (x7 : Vec F S224x512 .f32) (xo : Vec F S128x224 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (convBlk x0 x1 x3 x4 x5 x6) ∗ owns (c : Thread nD τ) arg10 fullShare (k0_pay4 x0 x2) ∗ owns (c : Thread nD τ) arg11 fullShare (k0_pay2 (convBlk x0 x1 x3 x4 x5 x6) x7 xo)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8 arg9 harg9 arg10 harg10 arg11 harg11) K := by
  simp only [cc0__stage1_body_eq_skeleton]; unfold cc0__stage1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
  sl_exec (disch := first | sl_exact hc0 | sl_exact hc1)
  sl_step
  iapply Hk
  isplitl [H0]; · iexists _; isplitr; (· ipureintro; exact harg1.read_unread _); iexact H0
  isplitl [H1]; · iexists _; isplitr; (· ipureintro; exact harg2.read_unread _); iexact H1
  isplitl [H2]; · iexists _; isplitr; (· ipureintro; exact harg3.read_unread _); iexact H2
  isplitl [H3]; · iexists _; isplitr; (· ipureintro; exact harg4.read_unread _); iexact H3
  isplitl [H4]; · iexists _; isplitr; (· ipureintro; exact harg5.read_unread _); iexact H4
  isplitl [H5]; · iexists _; isplitr; (· ipureintro; exact harg6.read_unread _); iexact H5
  isplitl [H6]; · iexists _; isplitr; (· ipureintro; exact harg7.read_unread _); iexact H6
  isplitl [H7]; · iexists _; isplitr; (· ipureintro; exact harg8.read_unread _); iexact H7
  isplitl [H8]
  · iexists _; isplitr; swap; (· iexact H8)
    ipureintro; refine (View.read_writes_eq_canon _ _ _ (fun y => View.cover_of_tiled _ S128x512.size (by rfl) y)).trans ?_
    simp (disch := decide) only [View.canon_cons_unit_lit', View.ld_unit_lit', View.readCov_unit_lit', View.readAt_eq_ld, Memref.IsWhole.read_unread, convBlk]
  isplitl [H9]
  · iexists _; isplitr; swap; (· iexact H9)
    ipureintro; refine (View.read_writes_eq_canon _ _ _ (fun y => View.cover_of_tiled _ S128x512.size (by rfl) y)).trans ?_
    delta body0_later.sl.r
    simp (disch := decide) only [View.canon_cons_unit_lit', View.ld_unit_lit', View.readCov_unit_lit', View.readAt_eq_ld, Memref.IsWhole.read_unread, convBlk]

  · iexists _; isplitr; swap; (· iexact H10)
    ipureintro; refine (View.read_writes_eq_canon _ _ _ (fun y => View.cover_of_tiled _ S128x224.size (by rfl) y)).trans ?_
    delta body0_later.sl.r_1
    simp (disch := decide) only [View.canon_cons_unit_lit', View.ld_unit_lit', View.readCov_unit_lit', View.readAt_eq_ld, Memref.IsWhole.read_unread, convBlk]

end Cert.KernelIdeal.Decode

end
-- ==== Proof.Stage1Data.lean ====
module

public import proofs.«01_k».proof.Proof.Stage1Body

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered
variable (V : (c : Dev nD) → (b : Ref sig .tc) → Buf (Elt F) ((c : Thread nD τ).loc b))

/-! ## The blocks the body is given -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves -/

/-- The activated convolution's columns at point `t`. -/
def conv0 (c : Dev nD) (t : Fin cfg0.N) : Vec F S128x512 .f32 :=
  convBlk (iblk0 V c 0 t) (iblk0 V c 1 t) (iblk0 V c 3 t) (iblk0 V c 4 t) (iblk0 V c 5 t) (iblk0 V c 6 t)

/-- The accumulated projection after point `n`. -/
def acc0 (c : Dev nD) : (n : ℕ) → n < cfg0.N → Vec F S128x224 .f32
  | 0, h => k0_pay1 (conv0 V c ⟨0, h⟩) (iblk0 V c 7 ⟨0, h⟩)
  | n + 1, h => k0_pay2 (conv0 V c ⟨n + 1, h⟩) (iblk0 V c 7 ⟨n + 1, h⟩) (acc0 c n (Nat.lt_of_succ_lt h))
theorem acc0_first (c : Dev nD) (t : Fin cfg0.N) (h : t.val = 0) : acc0 V c t.val t.isLt = k0_pay1 (conv0 V c t) (iblk0 V c 7 t) := by
  obtain ⟨n, hn⟩ := t
  obtain rfl : n = 0 := h
  rfl
theorem acc0_later (c : Dev nD) (t : Fin cfg0.N) (h : ¬t.val = 0) :
    acc0 V c t.val t.isLt = k0_pay2 (conv0 V c t) (iblk0 V c 7 t) (acc0 V c (t.val - 1) (Nat.lt_of_le_of_lt (Nat.sub_le _ _) t.isLt)) := by
  obtain ⟨n, hn⟩ := t
  obtain _ | n := n
  · exact absurd rfl h
  · rfl

/-- The proof data of the call on core `c`: the arrays as the call finds them; after the body at point `t` each input's
    buffer at its block and each output's at its value; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => conv0 V c t
    | ⟨9, _⟩ => k0_pay4 (iblk0 V c 0 t) (iblk0 V c 2 t)
    | ⟨10, _⟩ => acc0 V c t.val t.isLt
  Φ _ := Pipeline.ΦA spec0 c
  q w := Pipeline.shareOf spec0 w
  owed _ := 0

/-- The arrays are those the call finds. -/
theorem A_eq0 (c : Dev nD) (w : Fin cfg0.W) : (dat0 V c).A w = V c (Pipeline.arrRef spec0 w) := by
  dsimp only [dat0]

/-! What the body leaves and, for an input, is given, window by window. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = conv0 V c t := by dsimp only [dat0]
theorem after0_9 (c : Dev nD) (t : Fin cfg0.N) : (dat0 V c).after 9 t = k0_pay4 (iblk0 V c 0 t) (iblk0 V c 2 t) := by dsimp only [dat0]
theorem after0_10 (c : Dev nD) (t : Fin cfg0.N) : (dat0 V c).after 10 t = acc0 V c t.val t.isLt := by dsimp only [dat0]
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d
theorem before0_7 (c : Dev nD) (t : Fin cfg0.N) (d) : (dat0 V c).before 7 t d = iblk0 V c 7 t :=
  (dat0 V c).before_in_eq_fetched 7 rfl (fun _ => rfl) (fun _ _ _ => rfl) (fun _ => rfl) t d

/-! ## The two kinds of points -/

/-- The body starts the accumulator at the first point, -/
theorem first0 : ∀ t : Fin cfg0.N, k0_cond1 (grid0.coords t) = 1#1 ↔ t.val = 0 :=
  (fun t => by
    have ht : t.val < 10 := Nat.lt_of_lt_of_eq t.isLt N_0
    have e0 : (grid0.coords t 0).val = t.val / 1 % 10 := Pipeline.Grid.coords_val t 0 (by decide) rfl
    simp only [k0_cond1, e0]
    word_cmp
   : ∀ t : Fin grid0.N, k0_cond1 (grid0.coords t) = 1#1 ↔ t.val = 0)
/-- and adds to it at every other. -/
theorem later0 : ∀ t : Fin cfg0.N, k0_cond2 (grid0.coords t) = 1#1 ↔ ¬t.val = 0 :=
  (fun t => by
    have ht : t.val < 10 := Nat.lt_of_lt_of_eq t.isLt N_0
    have e0 : (grid0.coords t 0).val = t.val / 1 % 10 := Pipeline.Grid.coords_val t 0 (by decide) rfl
    simp only [k0_cond2, e0]
    word_cmp
   : ∀ t : Fin grid0.N, k0_cond2 (grid0.coords t) = 1#1 ↔ ¬t.val = 0)
/-- The accumulator's buffer is used at every point, -/
theorem live0 : ∀ t : Fin cfg0.N, cfg0.idle 10 (grid0.coords t) = false := by decide +kernel
/-- and only the first point finds it as no point left it. -/
theorem fresh0 (t : Fin cfg0.N) : cfg0.fresh 10 t.val = decide (t.val = 0) :=
  Pipeline.Cfg.fresh_tab cfg0 10 (fun n => decide (n = 0) || decide (n = 10)) rfl (by decide +kernel) t.val (Nat.le_of_lt t.isLt) |>.trans (by
    have ht : t.val < 10 := Nat.lt_of_lt_of_eq t.isLt N_0
    rw [decide_eq_false (show ¬t.val = 10 by omega), Bool.or_false])
/-- A later point finds in the accumulator's buffer what the point before left. -/
theorem before0_10 (c : Dev nD) (t : Fin cfg0.N) (h : ¬t.val = 0) (d) :
    (dat0 V c).before 10 t d = acc0 V c (t.val - 1) (Nat.lt_of_le_of_lt (Nat.sub_le _ _) t.isLt) := by
  rw [Dat.before_out_traj _ 10 rfl (fun _ _ => rfl) (fun t _ hi => absurd hi (by rw [live0 t]; exact Bool.false_ne_true)) t.val t rfl d,
    if_neg (by rw [fresh0 t, decide_eq_false h]; exact Bool.false_ne_true)]
  dsimp only [dat0]

/-! ## The body's obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

/-- A window in use at a point is left at its value there. -/
theorem leaves0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 1600000 in
/-- The body at any point, from the two triples of the body. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl]
  rw [leaves0 V c t 0 rfl, after0_0, leaves0 V c t 1 rfl, after0_1, leaves0 V c t 2 rfl, after0_2, leaves0 V c t 3 rfl, after0_3, leaves0 V c t 4 rfl, after0_4, leaves0 V c t 5 rfl, after0_5, leaves0 V c t 6 rfl, after0_6, leaves0 V c t 7 rfl, after0_7, leaves0 V c t 8 rfl, after0_8, leaves0 V c t 9 rfl, after0_9, leaves0 V c t 10 (live0 t), after0_10]
  by_cases h0 : t.val = 0
  · rw [acc0_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body0_first c Set.univ (grid0.coords t) _ _ _ _ _ _ _ _ _ _ _ _ _ _ _ _ _ _ _ _ _ _ ((first0 t).mpr h0) (fun h => (later0 t).mp h h0) (iblk0 V c 0 t) (iblk0 V c 1 t) (iblk0 V c 2 t) (iblk0 V c 3 t) (iblk0 V c 4 t) (iblk0 V c 5 t) (iblk0 V c 6 t) (iblk0 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc0_later V c t h0]
    simp only [before0_10 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body0_later c Set.univ (grid0.coords t) _ _ _ _ _ _ _ _ _ _ _ _ _ _ _ _ _ _ _ _ _ _ (fun h => h0 ((first0 t).mp h)) ((later0 t).mpr h0) (iblk0 V c 0 t) (iblk0 V c 1 t) (iblk0 V c 2 t) (iblk0 V c 3 t) (iblk0 V c 4 t) (iblk0 V c 5 t) (iblk0 V c 6 t) (iblk0 V c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body's row of the table at point `t`. -/
theorem row0 (t : Fin cfg0.N) :
    defs₀ (F := F) .tc cfg0.body (cfg0.bodyArgs t (cfg0.slots t)) = bodyAt0 t := by
  unfold defs₀; rw [Defs.onTc_tc]

/-- The body meets its obligation at every point. -/
theorem obligation0 (c : Dev nD) : BodyObligation (dat0 (F := F) V c) (defs₀ (F := F)) Variants.none () Set.univ := fun t => by
  rw [bigSep_W0, bigSep_W0, row0]
  exact triple_restated (sound_body0 V c t) rfl .rfl fun _ => .rfl

end Cert.KernelIdeal.Decode

end
-- ==== Proof.Stage2Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block of columns contributes -/

/-- One block's contribution to the projected output: of the projected state inputs `x0`, the step's projection and
    bias `x1`, `x2`, the decay's logarithm `x3`, the cached state `x4`, the activated convolution `x5`, the gate `x6`,
    the skip weights `x7` and the output projection's rows `x8`. -/
def contribBlk (x0 : Vec F S128x224 .f32) (x1 : Vec F S160x512 .f32) (x2 : Vec F S1x512 .f32) (x3 : Vec F S32x512 .f32)
    (x4 : Vec F S128x32x512 .f32) (x5 : Vec F S128x512 .f32) (x6 : Vec F S128x512 .f32) (x7 : Vec F S1x512 .f32)
    (x8 : Vec F S512x2560 .f32) : Vec F S128x2560 .f32 :=
  k1_pay1 (k1_pay4 x0) (k1_pay5 x0) (k1_pay6 x0 x1 x2) (k1_pay7 x0 x1 x2 x3 x4) x5 x7 x6 x8

/-- The same added to what the blocks before contributed. -/
def accBlk (x0 : Vec F S128x224 .f32) (x1 : Vec F S160x512 .f32) (x2 : Vec F S1x512 .f32) (x3 : Vec F S32x512 .f32)
    (x4 : Vec F S128x32x512 .f32) (x5 : Vec F S128x512 .f32) (x6 : Vec F S128x512 .f32) (x7 : Vec F S1x512 .f32)
    (x8 : Vec F S512x2560 .f32) (xo : Vec F S128x2560 .f32) : Vec F S128x2560 .f32 :=
  k1_pay2 (k1_pay4 x0) (k1_pay5 x0) (k1_pay6 x0 x1 x2) (k1_pay7 x0 x1 x2 x3 x4) x5 x7 x6 x8 xo

/-! ## The body -/

set_option maxHeartbeats 1000000 in
/-- The body on whole staging buffers at the first point: the inputs are left as they were,
    the accumulator holds its values of the inputs. -/
theorem body1_first (c : Dev nD) (E : Set ℕ) (i : grid1.Coords) (arg1 : Memref sig .tc .vmem S128x224 .f32) (harg1 : arg1.IsWhole) (arg2 : Memref sig .tc .vmem S160x512 .f32) (harg2 : arg2.IsWhole) (arg3 : Memref sig .tc .vmem S1x512 .f32) (harg3 : arg3.IsWhole) (arg4 : Memref sig .tc .vmem S32x512 .f32) (harg4 : arg4.IsWhole) (arg5 : Memref sig .tc .vmem S128x32x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S1x512 .f32) (harg8 : arg8.IsWhole) (arg9 : Memref sig .tc .vmem S512x2560 .f32) (harg9 : arg9.IsWhole) (arg10 : Memref sig .tc .vmem S128x2560 .f32) (harg10 : arg10.IsWhole)
    (hc0 : k1_cond1 i = 1#1) (hc1 : ¬k1_cond2 i = 1#1) (x0 : Vec F S128x224 .f32) (x1 : Vec F S160x512 .f32) (x2 : Vec F S1x512 .f32) (x3 : Vec F S32x512 .f32) (x4 : Vec F S128x32x512 .f32) (x5 : Vec F S128x512 .f32) (x6 : Vec F S128x512 .f32) (x7 : Vec F S1x512 .f32) (x8 : Vec F S512x2560 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (contribBlk x0 x1 x2 x3 x4 x5 x6 x7 x8)) -∗ K ⟨⟩))
      ⊢ wp frame (wpE (defs₀ (F := F)) Variants.none c none) E (cc1__stage2_body i arg1 harg1 arg2 harg2 arg3 harg3 arg4 harg4 arg5 harg5 arg6 harg6 arg7 harg7 arg8 harg8 arg9 harg9 arg10 harg10) K := by
  simp only [cc1__stage2_body_eq_skeleton]; unfold cc1__stage2_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]; · iexists _; isplitr; (· ipureintro; exact harg1.read_unread _); iexact H0
  isplitl [H1]; · iexists _; isplitr; (· ipureintro; exact harg2.read_unread _); iexact H1
  isplitl [H2]; · iexists _; isplitr; (· ipureintro; exact harg3.read_unread _); iexact H2
  isplitl [H3]; · iexists _; isplitr; (· ipureintro; exact harg4.read_unread _); iexact H3
  isplitl [H4]; · iexists _; isplitr; (· ipureintro; exact harg5.read_unread _); iexact H4
  isplitl [H5]; · iexists _; isplitr; (· ipureintro; exact harg6.read_unread _); iexact H5
  isplitl [H6]; · iexists _; isplitr; (· ipureintro; exact harg7.read_unread _); iexact H6
  isplitl [H7]; · iexists _; isplitr; (· ipureintro; exact harg8.read_unread _); iexact H7
  isplitl [H8]; · iexists _; isplitr; (· ipureintro; exact harg9.read_unread _); iexact H8

  · iexists _; isplitr; swap; (· iexact H9)
    ipureintro; refine (View.read_writes_eq_canon _ _ _ (fun y => View.cover_of_tiled _ S128x2560.size (by rfl) y)).trans ?_
    delta body1_first.sl.r body1_first.sl.r_1 body1_first.sl.r_2 body1_first.sl.r_3
    simp (disch := decide) only [View.canon_cons_unit_lit', View.ld_unit_lit', View.readCov_unit_lit', View.readAt_eq_ld, Memref.IsWhole.read_unread, contribBlk, accBlk]

set_option maxHeartbeats 1000000 in
/-- The body on whole staging buffers at a later point, the accumulator holding `xo`: the inputs are left as they were,
    the accumulator holds its values of the inputs. -/
theorem body1_later (c : Dev nD) (E : Set ℕ) (i : grid1.Coords) (arg1 : Memref sig .tc .vmem S128x224 .f32) (harg1 : arg1.IsWhole) (arg2 : Memref sig .tc .vmem S160x512 .f32) (harg2 : arg2.IsWhole) (arg3 : Memref sig .tc .vmem S1x512 .f32) (harg3 : arg3.IsWhole) (arg4 : Memref sig .tc .vmem S32x512 .f32) (harg4 : arg4.IsWhole) (arg5 : Memref sig .tc .vmem S128x32x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S1x512 .f32) (harg8 : arg8.IsWhole) (arg9 : Memref sig .tc .vmem S512x2560 .f32) (harg9 : arg9.IsWhole) (arg10 : Memref sig .tc .vmem S128x2560 .f32) (harg10 : arg10.IsWhole)
    (hc0 : ¬k1_cond1 i = 1#1) (hc1 : k1_cond2 i = 1#1) (x0 : Vec F S128x224 .f32) (x1 : Vec F S160x512 .f32) (x2 : Vec F S1x512 .f32) (x3 : Vec F S32x512 .f32) (x4 : Vec F S128x32x512 .f32) (x5 : Vec F S128x512 .f32) (x6 : Vec F S128x512 .f32) (x7 : Vec F S1x512 .f32) (x8 : Vec F S512x2560 .f32) (xo : Vec F S128x2560 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (accBlk x0 x1 x2 x3 x4 x5 x6 x7 x8 xo)) -∗ K ⟨⟩))
      ⊢ wp frame (wpE (defs₀ (F := F)) Variants.none c none) E (cc1__stage2_body i arg1 harg1 arg2 harg2 arg3 harg3 arg4 harg4 arg5 harg5 arg6 harg6 arg7 harg7 arg8 harg8 arg9 harg9 arg10 harg10) K := by
  simp only [cc1__stage2_body_eq_skeleton]; unfold cc1__stage2_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]; · iexists _; isplitr; (· ipureintro; exact harg1.read_unread _); iexact H0
  isplitl [H1]; · iexists _; isplitr; (· ipureintro; exact harg2.read_unread _); iexact H1
  isplitl [H2]; · iexists _; isplitr; (· ipureintro; exact harg3.read_unread _); iexact H2
  isplitl [H3]; · iexists _; isplitr; (· ipureintro; exact harg4.read_unread _); iexact H3
  isplitl [H4]; · iexists _; isplitr; (· ipureintro; exact harg5.read_unread _); iexact H4
  isplitl [H5]; · iexists _; isplitr; (· ipureintro; exact harg6.read_unread _); iexact H5
  isplitl [H6]; · iexists _; isplitr; (· ipureintro; exact harg7.read_unread _); iexact H6
  isplitl [H7]; · iexists _; isplitr; (· ipureintro; exact harg8.read_unread _); iexact H7
  isplitl [H8]; · iexists _; isplitr; (· ipureintro; exact harg9.read_unread _); iexact H8

  · iexists _; isplitr; swap; (· iexact H9)
    ipureintro; refine (View.read_writes_eq_canon _ _ _ (fun y => View.cover_of_tiled _ S128x2560.size (by rfl) y)).trans ?_
    delta body1_later.sl.r body1_later.sl.r_1 body1_later.sl.r_2 body1_later.sl.r_3
    simp (disch := decide) only [View.canon_cons_unit_lit', View.ld_unit_lit', View.readCov_unit_lit', View.readAt_eq_ld, Memref.IsWhole.read_unread, contribBlk, accBlk]

end Cert.KernelIdeal.Decode

end
-- ==== Proof.Stage2Data.lean ====
module

public import proofs.«01_k».proof.Proof.Stage2Body

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered
variable (V : (c : Dev nD) → (b : Ref sig .tc) → Buf (Elt F) ((c : Thread nD τ).loc b))

/-! ## The blocks the body is given -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves -/

/-- The accumulated output after point `n`. -/
def acc1 (c : Dev nD) : (n : ℕ) → n < cfg1.N → Vec F S128x2560 .f32
  | 0, h => contribBlk (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)
  | n + 1, h => accBlk (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (acc1 c n (Nat.lt_of_succ_lt h))
theorem acc1_first (c : Dev nD) (t : Fin cfg1.N) (h : t.val = 0) : acc1 V c t.val t.isLt = contribBlk (iblk1 V c 0 t) (iblk1 V c 1 t) (iblk1 V c 2 t) (iblk1 V c 3 t) (iblk1 V c 4 t) (iblk1 V c 5 t) (iblk1 V c 6 t) (iblk1 V c 7 t) (iblk1 V c 8 t) := by
  obtain ⟨n, hn⟩ := t
  obtain rfl : n = 0 := h
  rfl
theorem acc1_later (c : Dev nD) (t : Fin cfg1.N) (h : ¬t.val = 0) :
    acc1 V c t.val t.isLt = accBlk (iblk1 V c 0 t) (iblk1 V c 1 t) (iblk1 V c 2 t) (iblk1 V c 3 t) (iblk1 V c 4 t) (iblk1 V c 5 t) (iblk1 V c 6 t) (iblk1 V c 7 t) (iblk1 V c 8 t) (acc1 V c (t.val - 1) (Nat.lt_of_le_of_lt (Nat.sub_le _ _) t.isLt)) := by
  obtain ⟨n, hn⟩ := t
  obtain _ | n := n
  · exact absurd rfl h
  · rfl

/-- The proof data of the call on core `c`: the arrays as the call finds them; after the body at point `t` each input's
    buffer at its block and each output's at its value; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => acc1 V c t.val t.isLt
  Φ _ := Pipeline.ΦA spec1 c
  q _ := fullShare
  owed _ := 0

/-- The arrays are those the call finds. -/
theorem A_eq1 (c : Dev nD) (w : Fin cfg1.W) : (dat1 V c).A w = V c (Pipeline.arrRef spec1 w) := by
  dsimp only [dat1]

/-! What the body leaves and, for an input, is given, window by window. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = acc1 V c t.val t.isLt := by dsimp only [dat1]
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d

/-! ## The two kinds of points -/

/-- The body starts the accumulator at the first point, -/
theorem first1 : ∀ t : Fin cfg1.N, k1_cond1 (grid1.coords t) = 1#1 ↔ t.val = 0 :=
  (fun t => by
    have ht : t.val < 10 := Nat.lt_of_lt_of_eq t.isLt N_1
    have e0 : (grid1.coords t 0).val = t.val / 1 % 10 := Pipeline.Grid.coords_val t 0 (by decide) rfl
    simp only [k1_cond1, e0]
    word_cmp
   : ∀ t : Fin grid1.N, k1_cond1 (grid1.coords t) = 1#1 ↔ t.val = 0)
/-- and adds to it at every other. -/
theorem later1 : ∀ t : Fin cfg1.N, k1_cond2 (grid1.coords t) = 1#1 ↔ ¬t.val = 0 :=
  (fun t => by
    have ht : t.val < 10 := Nat.lt_of_lt_of_eq t.isLt N_1
    have e0 : (grid1.coords t 0).val = t.val / 1 % 10 := Pipeline.Grid.coords_val t 0 (by decide) rfl
    simp only [k1_cond2, e0]
    word_cmp
   : ∀ t : Fin grid1.N, k1_cond2 (grid1.coords t) = 1#1 ↔ ¬t.val = 0)
/-- The accumulator's buffer is used at every point, -/
theorem live1 : ∀ t : Fin cfg1.N, cfg1.idle 9 (grid1.coords t) = false := by decide +kernel
/-- and only the first point finds it as no point left it. -/
theorem fresh1 (t : Fin cfg1.N) : cfg1.fresh 9 t.val = decide (t.val = 0) :=
  Pipeline.Cfg.fresh_tab cfg1 9 (fun n => decide (n = 0) || decide (n = 10)) rfl (by decide +kernel) t.val (Nat.le_of_lt t.isLt) |>.trans (by
    have ht : t.val < 10 := Nat.lt_of_lt_of_eq t.isLt N_1
    rw [decide_eq_false (show ¬t.val = 10 by omega), Bool.or_false])
/-- A later point finds in the accumulator's buffer what the point before left. -/
theorem before1_9 (c : Dev nD) (t : Fin cfg1.N) (h : ¬t.val = 0) (d) :
    (dat1 V c).before 9 t d = acc1 V c (t.val - 1) (Nat.lt_of_le_of_lt (Nat.sub_le _ _) t.isLt) := by
  rw [Dat.before_out_traj _ 9 rfl (fun _ _ => rfl) (fun t _ hi => absurd hi (by rw [live1 t]; exact Bool.false_ne_true)) t.val t rfl d,
    if_neg (by rw [fresh1 t, decide_eq_false h]; exact Bool.false_ne_true)]
  dsimp only [dat1]

/-! ## The body's obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

/-- A window in use at a point is left at its value there. -/
theorem leaves1 (c : Dev nD) (t : Fin cfg1.N) (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 1600000 in
/-- The body at any point, from the two triples of the body. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl]
  rw [leaves1 V c t 0 rfl, after1_0, leaves1 V c t 1 rfl, after1_1, leaves1 V c t 2 rfl, after1_2, leaves1 V c t 3 rfl, after1_3, leaves1 V c t 4 rfl, after1_4, leaves1 V c t 5 rfl, after1_5, leaves1 V c t 6 rfl, after1_6, leaves1 V c t 7 rfl, after1_7, leaves1 V c t 8 rfl, after1_8, leaves1 V c t 9 (live1 t), after1_9]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1_first c Set.univ (grid1.coords t) _ _ _ _ _ _ _ _ _ _ _ _ _ _ _ _ _ _ _ _ ((first1 t).mpr h0) (fun h => (later1 t).mp h h0) (iblk1 V c 0 t) (iblk1 V c 1 t) (iblk1 V c 2 t) (iblk1 V c 3 t) (iblk1 V c 4 t) (iblk1 V c 5 t) (iblk1 V c 6 t) (iblk1 V c 7 t) (iblk1 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [acc1_later V c t h0]
    simp only [before1_9 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1_later c Set.univ (grid1.coords t) _ _ _ _ _ _ _ _ _ _ _ _ _ _ _ _ _ _ _ _ (fun h => h0 ((first1 t).mp h)) ((later1 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body's row of the table at point `t`. -/
theorem row1 (t : Fin cfg1.N) :
    defs₀ (F := F) .tc cfg1.body (cfg1.bodyArgs t (cfg1.slots t)) = bodyAt1 t := by
  unfold defs₀; rw [Defs.onTc_tc]

/-- The body meets its obligation at every point. -/
theorem obligation1 (c : Dev nD) : BodyObligation (dat1 (F := F) V c) (defs₀ (F := F)) Variants.none () Set.univ := fun t => by
  rw [bigSep_W1, bigSep_W1, row1]
  exact triple_restated (sound_body1 V c t) rfl .rfl fun _ => .rfl

end Cert.KernelIdeal.Decode

end
-- ==== Proof.Run.lean ====
module

public import proofs.«01_k».proof.Proof.Stage1Data
public import proofs.«01_k».proof.Proof.Stage2Data
public import proofs.«01_k».proof.Proof.Gen.KernelIdeal.Regions

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: host operations, the first call, host operations, the second call, host operations -/

/-- The argument arrays. -/
abbrev argRefs : List (Ref sig .tc) := [main_arg0, main_arg1, main_arg2, main_arg3, main_arg4, main_arg5, main_arg6, main_arg7, main_arg8, main_arg9, main_arg10, main_arg11, main_arg12]

theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)

/-! ## The buffers between the items -/

/-- Core `c`'s buffers at launch, -/
abbrev W0 : Dev nD → Valuation τ sig (Elt F) := fun c b => (s₀ m ρ).mem ((c : Dev nD), b)
/-- where the first call is entered, -/
abbrev W1 : Dev nD → Valuation τ sig (Elt F) := fun c => StableHlo.after hostOps0 (W0 m ρ c)
/-- the same at the core's references, -/
abbrev E1 : (c : Dev nD) → (b : Ref sig .tc) → Buf (Elt F) ((c : Thread nD τ).loc b) := fun c b => W1 m ρ c b
/-- where the first call is left: its arrays as its write-backs leave them, every other buffer as entered, -/
def W2 (c : Dev nD) : Valuation τ sig (Elt F) :=
  Pipeline.withArrays spec0 c (W1 m ρ c) fun w => (dat0 (E1 m ρ) c).arrAt w cfg0.N
abbrev E2 : (c : Dev nD) → (b : Ref sig .tc) → Buf (Elt F) ((c : Thread nD τ).loc b) := fun c b => W2 m ρ c b
/-- where the second call is entered, -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- where it is left, -/
def W4 (c : Dev nD) : Valuation τ sig (Elt F) :=
  Pipeline.withArrays spec1 c (W3 m ρ c) fun w => (dat1 (E3 m ρ) c).arrAt w cfg1.N
abbrev E4 : (c : Dev nD) → (b : Ref sig .tc) → Buf (Elt F) ((c : Thread nD τ).loc b) := fun c b => W4 m ρ c b
/-- and at the return. -/
abbrev W5 : Dev nD → Valuation τ sig (Elt F) := fun c => StableHlo.after hostOps2 (W4 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- Across the first call: an array of the call holds what the write-backs leave, -/
theorem W2_arr (c : Dev nD) (w : Fin cfg0.W) :
    W2 m ρ c (Proc.devRef .tc (Pipeline.arrRef spec0 w)) = (dat0 (E1 m ρ) c).arrAt w cfg0.N := by
  unfold W2; exact (dat0 (E1 m ρ) c).withArrays_arrAt launch₀0.sharedIn _ (A_eq0 (E1 m ρ) c) w
/-- a buffer of no window keeps its contents, -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- and so does a buffer of no output window. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (E1 m ρ) c).arrAt_in w (h w rfl) _).trans (A_eq0 (E1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- Across the second call: an array of the call holds what the write-backs leave, -/
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
/-- a buffer of no window keeps its contents, -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- and so does a buffer of no output window. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (E3 m ρ) c).arrAt_in w (h w rfl) _).trans (A_eq1 (E3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- No item writes an argument: where the second call is entered each is as launched, -/
theorem W3_args (c : Dev nD) : ∀ a ∈ argRefs, W3 m ρ c (Proc.devRef .tc a) = m ((c : Thread nD τ).loc a) :=
  fun a ha => (W3_of m ρ c a (hostOps1_args a ha)).trans ((W2_of m ρ c a (argsIn0 a ha)).trans (W1_of m ρ c a (hostOps0_args a ha)))
/-- and so at the return. -/
theorem W5_args (c : Dev nD) : ∀ a ∈ argRefs, W5 m ρ c (Proc.devRef .tc a) = m ((c : Thread nD τ).loc a) :=
  fun a ha => (W5_of m ρ c a (hostOps2_args a ha)).trans ((W4_of m ρ c a (argsIn1 a ha)).trans (W3_args m ρ c a ha))

/-! ## What the cores hold between the items -/

/-- The proof data of the two calls, each at the contents its call is entered with. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What each core carries along beside its buffers: its generator register at some state, and that it owes nothing. -/
abbrev R (c : Dev nD) : sProp 𝕄 := iprop((∃ r, prngReg c r) ∗ ∃ W, owes (c : Thread nD τ) (0 : CellTallies nD τ sig Unit) W)
/-- A stretch of host operations as a segment: entered with the core's unscoped buffers at `W`, left with them as the operations
    leave them, `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem args_unscoped : ∀ a ∈ argRefs, ¬ (Proc.devRef .tc a : DevRef τ sig).isScoped :=
  ListAll.forall_mem_of_all_decide (by decide +kernel)
/-- What a core holds at the end, apart from owing nothing: its unscoped buffers at the last contents `W5` and its generator register. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The first call as a segment, from the buffers at `W1` to the buffers at `W2`. Its arrays are taken out of the unscoped buffers, the
    two windows on the cached slots sharing one array, and put back as the write-backs leave them; the generator register is
    lent to the call; nothing is owed. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (E1 m ρ c) (A_eq0 (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment, from the buffers at `W3` to the buffers at `W4`, in the same way; no two of its windows share an
    array. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) (A_eq1 (E3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The program's five items in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its items. -/
theorem main_run (c : Dev nD) : main (F := F) c = Pipeline.Seg.run (items m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters every weakly fair run of the program ends without a fault, with every unscoped buffer
    at the last contents `W5` and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- So the result is the last contents, the arguments are unchanged and every counter is zero. -/
theorem run_result : θ_run defs (onTc (τ := τ) (main (F := F))) ⟨m, fun _ => 0, ρ⟩ (fun r =>
      (∀ c : Dev nD, r.2.mem ((c.tc : Thread nD τ).loc main_v10) = W5 m ρ c (Proc.devRef .tc main_v10))
      ∧ (∀ c : Dev nD, ∀ a ∈ argRefs, r.2.mem ((c.tc : Thread nD τ).loc a) = m ((c.tc : Thread nD τ).loc a))
      ∧ r.2.sem = fun _ => 0) :=
  (θ_run defs _ _).mono (fun _ h => ⟨fun c => h.1 c _ (mem_uc main_v10 (by decide)),
    fun c a ha => (h.1 c _ (mem_uc a (args_unscoped a ha))).trans (W5_args m ρ c a ha), h.2⟩) (run m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨h.2.1 c main_arg0 (by decide), h.2.1 c main_arg1 (by decide), h.2.1 c main_arg2 (by decide), h.2.1 c main_arg3 (by decide), h.2.1 c main_arg4 (by decide), h.2.1 c main_arg5 (by decide), h.2.1 c main_arg6 (by decide), h.2.1 c main_arg7 (by decide), h.2.1 c main_arg8 (by decide), h.2.1 c main_arg9 (by decide), h.2.1 c main_arg10 (by decide), h.2.1 c main_arg11 (by decide), h.2.1 c main_arg12 (by decide)⟩, h.2.2⟩) (run_result m ρ)

end Cert.KernelIdeal.Decode

end
-- ==== Proof.ReferenceAt.lean ====
/- The reference's steps read at an index. -/
module

public import proofs.«01_k».proof.Proof.Reference
public import Idealize.ShloMosaic.Lib.Pointwise

@[expose] public section

set_option maxRecDepth 16384

noncomputable section

open Idealize.ShloMosaic Idealize.SL.Sem

namespace Cert.ReferenceIdeal.Decode

open Cert.ReferenceIdeal Cert.ReferenceIdeal.Gen

/-- `silu` of one number. -/
def silu (z : EReal) : EReal := z * Ideal.logistic z

/-- `softplus` of one number, as both programs compute it: they ask first whether `z - 0` differs from itself, which no
    number does. -/
def softplus (z : EReal) : EReal := max z 0 + Ideal.log (1 + Ideal.exp (-max z (-z)))

theorem siluR_at (z : FVec Ideal S128x5120 .f32) (j : S128x5120.Idx) : siluR z j = silu (z j) := by
  pointwise [siluR, fill, silu, Ideal.logistic]

theorem softplusR_at (z : FVec Ideal S128x5120 .f32) (j : S128x5120.Idx) : softplusR z j = softplus (z j) := by
  pointwise [softplusR, fill, softplus]
  rw [if_neg (fun h => h rfl)]
  rfl

theorem convR_at (x : FVec Ideal S1x1x128x2560 .f32) (cs : FVec Ideal S4x128x5120 .f32) (w : FVec Ideal S2560x5120 .f32)
    (cw : FVec Ideal S4x5120 .f32) (cb : FVec Ideal S5120 .f32) (b : Fin 128) (d : Fin 5120) :
    convR x cs w cw cb (ix2 b d)
      = cs (ix3 1 b d) * cw (ix2 0 d) + cs (ix3 2 b d) * cw (ix2 1 d) + cs (ix3 3 b d) * cw (ix2 2 d)
        + (∑ k : Fin 2560, x (ix4 0 0 b k) * w (ix2 k d)) * cw (ix2 3 d) + cb (ix1 d) := by
  pointwise [convR, tapsR, projR, rowsOf]
  simp only [Fin.sum_univ_three, Fin.sum_univ_one]
  exact congrArg₂ (· + ·) (congrArg₂ (· + ·) (congrArg₂ (· + ·) (congrArg₂ (· + ·) (mul_comm _ _) (mul_comm _ _))
    (mul_comm _ _)) (mul_comm _ _)) rfl

theorem dblR_at (u : FVec Ideal S128x5120 .f32) (xp : FVec Ideal S5120x224 .f32) (b : Fin 128) (n : Fin 224) :
    dblR u xp (ix2 b n) = ∑ d : Fin 5120, u (ix2 b d) * xp (ix2 d n) := by
  pointwise [dblR]

theorem stepR_at (dbl : FVec Ideal S128x224 .f32) (dw : FVec Ideal S160x5120 .f32) (db : FVec Ideal S5120 .f32)
    (b : Fin 128) (d : Fin 5120) :
    stepR dbl dw db (ix2 b d) = (∑ r : Fin 160, dbl (ix2 b ⟨r.val, by omega⟩) * dw (ix2 r d)) + db (ix1 d) := by
  pointwise [stepR, rowsOf]

theorem outR_at (dt : FVec Ideal S128x5120 .f32) (dbl : FVec Ideal S128x224 .f32) (u : FVec Ideal S128x5120 .f32)
    (st : FVec Ideal S128x5120x32 .f32) (al : FVec Ideal S5120x32 .f32) (sk : FVec Ideal S5120 .f32)
    (b : Fin 128) (d : Fin 5120) :
    outR dt dbl u st al sk (ix2 b d)
      = (∑ s : Fin 32, (Ideal.exp (dt (ix2 b d) * -Ideal.exp (al (ix2 d s))) * st (ix3 b d s)
            + dt (ix2 b d) * dbl (ix2 b ⟨160 + s.val, by omega⟩) * u (ix2 b d)) * dbl (ix2 b ⟨192 + s.val, by omega⟩))
        + sk (ix1 d) * u (ix2 b d) := by
  pointwise [outR, decayR, driveR, overStates, rowsOf]

theorem lastR_at (y res : FVec Ideal S128x5120 .f32) (ow : FVec Ideal S5120x2560 .f32) (b : Fin 128) (n : Fin 2560) :
    lastR y res ow (ix2 b n) = ∑ d : Fin 5120, (y (ix2 b d) * res (ix2 b d)) * ow (ix2 d n) := by
  pointwise [lastR]

end Cert.ReferenceIdeal.Decode
end
-- ==== Proof.Stage1Value.lean ====
module

public import proofs.«01_k».proof.Proof.Stage1Data
public import proofs.«01_k».proof.Proof.ReferenceAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Decode

open Cert.KernelIdeal Cert.KernelIdeal.Gen
open Cert.ReferenceIdeal.Decode (silu softplus siluR_at softplusR_at convR_at dblR_at stepR_at outR_at lastR_at siluR softplusR fill rowsOf projR tapsR convR dblR stepR overStates decayR driveR outR lastR uOf resultR)

/-- The block index of every window of the first call, at every point. -/
theorem idx0 : ∀ t : Fin cfg0.N, t.val < 10 ∧ win0_0.index t = ![0, 0] ∧ win0_1.index t = ![0, t.val] ∧ win0_2.index t = ![0, t.val]
    ∧ win0_3.index t = ![1, t.val] ∧ win0_4.index t = ![1, t.val] ∧ win0_5.index t = ![0, t.val] ∧ win0_6.index t = ![0, t.val]
    ∧ win0_7.index t = ![0, t.val] ∧ win0_8.index t = ![0, t.val] ∧ win0_9.index t = ![0, t.val] ∧ win0_10.index t = ![0, 0] :=
  (by decide +kernel : ∀ t : Fin grid0.N, _)

variable (V : (c : Dev nD) → (b : Ref sig .tc) → Buf (Elt Ideal) ((c : Thread nD τ).loc b)) (c : Dev nD)

/-- The input read as a matrix. -/
theorem flat_at (x : FVec Ideal S1x1x128x2560 .f32) (j : S128x2560.Idx) :
    shapeCast S128x2560 x shapeCasts_S1x1x128x2560_S128x2560 j = x (ix4 0 0 (j 0) (j 1)) := by pointwise

/-- The cache read as a matrix of slots by rows. -/
theorem slots_at (cs : FVec Ideal S4x128x5120 .f32) (j : S512x5120.Idx) :
    shapeCast S512x5120 cs shapeCasts_S4x128x5120_S512x5120 j
      = cs (ix3 ⟨(j 0).val / 128, Nat.div_lt_of_lt_mul (j 0).isLt⟩ ⟨(j 0).val % 128, Nat.mod_lt _ (by decide)⟩ (j 1)) := by pointwise

/-- Row `b` of slot `s` lies at row `s * 128 + b` of that matrix. -/
theorem slot_row (cs : FVec Ideal S4x128x5120 .f32) (s : Fin 4) (b : Fin 128) (d : Fin 5120) (h : s.val * 128 + b.val < 512) :
    shapeCast S512x5120 cs shapeCasts_S4x128x5120_S512x5120 (ix2 ⟨s.val * 128 + b.val, h⟩ d) = cs (ix3 s b d) := by
  refine (slots_at cs _).trans (congrArg cs ?_)
  have h0 : (s.val * 128 + b.val) / 128 = s.val := by omega
  have h1 : (s.val * 128 + b.val) % 128 = b.val := by omega
  exact congrArg₂ (fun p q => ix3 p q d) (Fin.ext h0) (Fin.ext h1)

/-- A row of 5120 entries read as a matrix of one row. -/
theorem row_at (v : FVec Ideal S5120 .f32) (j : S1x5120.Idx) :
    shapeCast S1x5120 v shapeCasts_S5120_S1x5120 j = v (ix1 (j 1)) := by pointwise

/-- What the first call finds in its input arrays: the arguments, some reshaped, the projection matrix transposed. -/
structure Given0 (x : FVec Ideal S1x1x128x2560 .f32) (cs : FVec Ideal S4x128x5120 .f32) (w wm : FVec Ideal S2560x5120 .f32)
    (cw : FVec Ideal S4x5120 .f32) (cb : FVec Ideal S5120 .f32) (xp : FVec Ideal S5120x224 .f32) : Prop where
  x : V c main_v0 = shapeCast S128x2560 x shapeCasts_S1x1x128x2560_S128x2560
  cs : V c main_v3 = shapeCast S512x5120 cs shapeCasts_S4x128x5120_S512x5120
  w : V c main_arg3 = w
  wm : V c main_arg4 = wm
  cw : V c main_arg5 = cw
  cb : V c main_v1 = shapeCast S1x5120 cb shapeCasts_S5120_S1x5120
  xp : V c main_v2 = transpose S224x5120 [1, 0] xp transposes_S5120x224_S224x5120_1_0

variable {V c} {x : FVec Ideal S1x1x128x2560 .f32} {cs : FVec Ideal S4x128x5120 .f32} {w wm : FVec Ideal S2560x5120 .f32}
  {cw : FVec Ideal S4x5120 .f32} {cb : FVec Ideal S5120 .f32} {xp : FVec Ideal S5120x224 .f32}

/-- The first call's second result is the gate `silu (x @ w_in_mlp)`, whole. -/
theorem gate_final (h : Given0 V c x cs w wm cw cb xp) : (dat0 V c).arrAt 9 cfg0.N = siluR (projR x wm) := by
  refine (dat0 V c).arrAt_eq_of_covers 9 _ (by decide +kernel) fun t _ y => ?_
  blk_simp
  rw [after0_9]
  pointwise [k0_pay4, k0_pay3, siluR, projR, fill, Ideal.logistic]
  blk_point [iblk0, h.x, h.wm, idx0 t]
  exact (flat_at x _).trans (by blk_ext [idx0 t])

end Cert.KernelIdeal.Decode

end
-- ==== Proof.Stage1U.lean ====
module

public import proofs.«01_k».proof.Proof.Stage1Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Decode

open Cert.KernelIdeal Cert.KernelIdeal.Gen
open Cert.ReferenceIdeal.Decode (silu softplus siluR_at softplusR_at convR_at dblR_at stepR_at outR_at lastR_at siluR softplusR fill rowsOf projR tapsR convR dblR stepR overStates decayR driveR outR lastR uOf resultR)

variable {V : (c : Dev nD) → (b : Ref sig .tc) → Buf (Elt Ideal) ((c : Thread nD τ).loc b)} {c : Dev nD}
  {x : FVec Ideal S1x1x128x2560 .f32} {cs : FVec Ideal S4x128x5120 .f32} {w wm : FVec Ideal S2560x5120 .f32}
  {cw : FVec Ideal S4x5120 .f32} {cb : FVec Ideal S5120 .f32} {xp : FVec Ideal S5120x224 .f32}

/-- What the body stores in its block of `u` at a point is `u` where the block lies. -/
theorem u_point (h : Given0 V c x cs w wm cw cb xp) (t : Fin cfg0.N) (y) :
    conv0 V c t y = uOf x cs w cw cb (((cfg0.win 8).blk t).view.emb y) := by
  refine Eq.trans ?_ ((siluR_at _ _).trans (congrArg silu ((congrArg _ (eq_ix2 _)).trans (convR_at _ _ _ _ _ _ _)))).symm
  pointwise [conv0, convBlk, k0_pay5, k0_pay3, rowsLo, rowsHi, silu]
  blk_point [iblk0, h.x, h.cs, h.cb, h.w, h.cw, idx0 t]
  · refine Eq.trans (congrArg _ ?_) (slot_row cs 1 _ _ (by omega))
    blk_ext [idx0 t]
  · refine Eq.trans (congrArg _ ?_) (slot_row cs 2 _ _ (by omega))
    blk_ext [idx0 t]
  · refine Eq.trans (congrArg _ ?_) (slot_row cs 3 _ _ (by omega))
    blk_ext [idx0 t]
  · exact (flat_at x _).trans (by blk_ext [idx0 t])
  · exact (row_at cb _).trans (by blk_ext [idx0 t])

/-- The first call's first result is `u`, whole. -/
theorem u_final (h : Given0 V c x cs w wm cw cb xp) : (dat0 V c).arrAt 8 cfg0.N = uOf x cs w cw cb := by
  refine (dat0 V c).arrAt_eq_of_covers 8 _ (by decide +kernel) fun t _ y => ?_
  blk_simp
  rw [after0_8]
  exact u_point h t y

end Cert.KernelIdeal.Decode

end
-- ==== Proof.Stage1Dbl.lean ====
module

public import proofs.«01_k».proof.Proof.Stage1U
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Decode

open Cert.KernelIdeal Cert.KernelIdeal.Gen
open Cert.ReferenceIdeal.Decode (silu softplus siluR_at softplusR_at convR_at dblR_at stepR_at outR_at lastR_at siluR softplusR fill rowsOf projR tapsR convR dblR stepR overStates decayR driveR outR lastR uOf resultR)

variable {V : (c : Dev nD) → (b : Ref sig .tc) → Buf (Elt Ideal) ((c : Thread nD τ).loc b)} {c : Dev nD}
  {x : FVec Ideal S1x1x128x2560 .f32} {cs : FVec Ideal S4x128x5120 .f32} {w wm : FVec Ideal S2560x5120 .f32}
  {cw : FVec Ideal S4x5120 .f32} {cb : FVec Ideal S5120 .f32} {xp : FVec Ideal S5120x224 .f32}

/-- One point's share of the projection: its 512 columns of `u` against the same columns of the transposed matrix. -/
theorem part0_at (u : FVec Ideal S128x512 .f32) (p : FVec Ideal S224x512 .f32) (j : S128x224.Idx) :
    k0_pay1 u p j = ∑ k : Fin 512, u (ix2 (j 0) k) * p (ix2 (j 1) k) := by pointwise [k0_pay1]

theorem next0_at (u : FVec Ideal S128x512 .f32) (p : FVec Ideal S224x512 .f32) (a : FVec Ideal S128x224 .f32) (j : S128x224.Idx) :
    k0_pay2 u p a j = a j + k0_pay1 u p j := by pointwise [k0_pay2]

/-- A point's columns of `u` at their place in the array. -/
theorem u_block (h : Given0 V c x cs w wm cw cb xp) (t : Fin cfg0.N) (b : Fin 128) (k : Fin 512) (hl : t.val * 512 + k.val < 5120) :
    conv0 V c t (ix2 b k) = uOf x cs w cw cb (ix2 b ⟨t.val * 512 + k.val, hl⟩) := by
  refine (u_point h t (ix2 b k)).trans (congrArg _ ?_)
  blk_ext [idx0 t]

/-- The transposed projection matrix at a point's columns. -/
theorem xp_block (h : Given0 V c x cs w wm cw cb xp) (t : Fin cfg0.N) (n : Fin 224) (k : Fin 512) (hl : t.val * 512 + k.val < 5120) :
    iblk0 V c 7 t (ix2 n k) = xp (ix2 ⟨t.val * 512 + k.val, hl⟩ n) := by
  have e : ∀ j : S224x5120.Idx, transpose S224x5120 [1, 0] xp transposes_S5120x224_S224x5120_1_0 j = xp (ix2 (j 1) (j 0)) := by
    intro j; pointwise
  blk_simp [iblk0, h.xp]
  refine (e _).trans ?_
  blk_ext [idx0 t]

/-- The first call's third result is the whole projection `u @ x_proj_w`: the ten points' shares add up to it. -/
theorem dbl_final (h : Given0 V c x cs w wm cw cb xp) : (dat0 V c).arrAt 10 cfg0.N = dblR (uOf x cs w cw cb) xp := by
  refine (dat0 V c).arrAt_eq_of_after_last 10 t0_9 (by decide +kernel) _ fun j => ?_
  blk_simp
  rw [after0_10, Pipeline.eq_sum_fin_of_reset_step_apply_last (fun n hn => acc0 V c n hn) 10 (fun _ => (0 : EReal))
    (fun t j => k0_pay1 (F := Ideal) (conv0 V c t) (iblk0 V c 7 t) j)
    (fun t h0 j => by rw [acc0_first V c t (by have := Nat.lt_of_lt_of_eq t.isLt N_0; omega), zero_add])
    (fun t h0 j => by rw [acc0_later V c t (by omega), next0_at])
    (le_of_eq N_0) t0_9 rfl j, zero_add]
  refine Eq.trans (Fin.sum_fin_congr fun p => part0_at _ _ _) (Eq.trans ?_ ((congrArg _ (eq_ix2 j)).trans (dblR_at _ _ _ _)).symm)
  refine Fin.sum_mul_add_congr fun t k hl => ?_
  exact congrArg₂ _ (u_block h t _ k hl) (xp_block h t _ k hl)

end Cert.KernelIdeal.Decode

end
-- ==== Proof.Stage2Value.lean ====
module

public import proofs.«01_k».proof.Proof.Stage2Data
public import proofs.«01_k».proof.Proof.Stage1Value
public import proofs.«01_k».proof.Proof.ReferenceAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Decode

open Cert.KernelIdeal Cert.KernelIdeal.Gen
open Cert.ReferenceIdeal.Decode (silu softplus siluR_at softplusR_at convR_at dblR_at stepR_at outR_at lastR_at siluR softplusR fill rowsOf projR tapsR convR dblR stepR overStates decayR driveR outR lastR uOf resultR)

/-- The block index of every window of the second call, at every point. -/
theorem idx1 : ∀ t : Fin cfg1.N, t.val < 10 ∧ win1_0.index t = ![0, 0] ∧ win1_1.index t = ![0, t.val] ∧ win1_2.index t = ![0, t.val]
    ∧ win1_3.index t = ![0, t.val] ∧ win1_4.index t = ![0, 0, t.val] ∧ win1_5.index t = ![0, t.val] ∧ win1_6.index t = ![0, t.val]
    ∧ win1_7.index t = ![0, t.val] ∧ win1_8.index t = ![t.val, 0] ∧ win1_9.index t = ![0, 0] :=
  (by decide +kernel : ∀ t : Fin grid1.N, _)

/-! ## A point's share of the output -/

section block
variable (x0 : FVec Ideal S128x224 .f32) (x1 : FVec Ideal S160x512 .f32) (x2 : FVec Ideal S1x512 .f32) (x3 : FVec Ideal S32x512 .f32)
  (x4 : FVec Ideal S128x32x512 .f32) (x5 x6 : FVec Ideal S128x512 .f32) (x7 : FVec Ideal S1x512 .f32) (x8 : FVec Ideal S512x2560 .f32)

/-- The step size. -/
theorem step_at (b : Fin 128) (e : Fin 512) :
    k1_pay6 (F := Ideal) x0 x1 x2 (ix2 b e) = softplus ((∑ r : Fin 160, x0 (ix2 b ⟨r.val, by omega⟩) * x1 (ix2 r e)) + x2 (ix2 0 e)) := by
  pointwise [k1_pay6, k1_pay3, softplus]
  rw [if_neg (fun h => h rfl), zero_sub]
  rfl

/-- The decayed state read through `Cm`. -/
theorem decayed_at (b : Fin 128) (e : Fin 512) :
    k1_pay7 (F := Ideal) x0 x1 x2 x3 x4 (ix2 b e)
      = ∑ s : Fin 32, (Ideal.exp (k1_pay6 (F := Ideal) x0 x1 x2 (ix2 b e) * (0 - Ideal.exp (x3 (ix2 s e)))) * x4 (ix3 b s e)) * x0 (ix2 b ⟨192 + s.val, by omega⟩) := by
  pointwise [k1_pay7, k1_pay5, k1_pay3]

/-- The point's share. -/
theorem share_at (b : Fin 128) (n : Fin 2560) :
    contribBlk (F := Ideal) x0 x1 x2 x3 x4 x5 x6 x7 x8 (ix2 b n)
      = ∑ e : Fin 512, ((((k1_pay7 (F := Ideal) x0 x1 x2 x3 x4 (ix2 b e)
          + (k1_pay6 (F := Ideal) x0 x1 x2 (ix2 b e) * x5 (ix2 b e)) * (∑ s : Fin 32, x0 (ix2 b ⟨160 + s.val, by omega⟩) * x0 (ix2 b ⟨192 + s.val, by omega⟩)))
          + x7 (ix2 0 e) * x5 (ix2 b e)) * x6 (ix2 b e)) * x8 (ix2 e n)) := by
  pointwise [contribBlk, k1_pay1, k1_pay4, k1_pay5, k1_pay3]

theorem next1_at (a : FVec Ideal S128x2560 .f32) (j : S128x2560.Idx) :
    accBlk (F := Ideal) x0 x1 x2 x3 x4 x5 x6 x7 x8 a j = a j + contribBlk (F := Ideal) x0 x1 x2 x3 x4 x5 x6 x7 x8 j := by
  pointwise [accBlk, contribBlk, k1_pay2]
end block

/-! ## What the second call finds -/

variable (V : (c : Dev nD) → (b : Ref sig .tc) → Buf (Elt Ideal) ((c : Thread nD τ).loc b)) (c : Dev nD)

/-- What the second call finds in its input arrays: the first call's three results and the arguments, some reshaped,
    the state and `A_log` transposed. -/
structure Given1 (dbl : FVec Ideal S128x224 .f32) (dw : FVec Ideal S160x5120 .f32) (db : FVec Ideal S5120 .f32) (al : FVec Ideal S5120x32 .f32)
    (st : FVec Ideal S128x5120x32 .f32) (u res : FVec Ideal S128x5120 .f32) (sk : FVec Ideal S5120 .f32) (ow : FVec Ideal S5120x2560 .f32) : Prop where
  dbl : V c main_v4_2 = dbl
  dw : V c main_arg9 = dw
  db : V c main_v7 = shapeCast S1x5120 db shapeCasts_S5120_S1x5120
  al : V c main_v6 = transpose S32x5120 [1, 0] al transposes_S5120x32_S32x5120_1_0
  st : V c main_v5 = transpose S128x32x5120 [0, 2, 1] st transposes_S128x5120x32_S128x32x5120_0_2_1
  u : V c main_v4_0 = u
  res : V c main_v4_1 = res
  sk : V c main_v8 = shapeCast S1x5120 sk shapeCasts_S5120_S1x5120
  ow : V c main_arg12 = ow

variable {V c} {dbl : FVec Ideal S128x224 .f32} {dw : FVec Ideal S160x5120 .f32} {db : FVec Ideal S5120 .f32} {al : FVec Ideal S5120x32 .f32}
  {st : FVec Ideal S128x5120x32 .f32} {u res : FVec Ideal S128x5120 .f32} {sk : FVec Ideal S5120 .f32} {ow : FVec Ideal S5120x2560 .f32}

/-- The state with its last two axes swapped. -/
theorem swapped_at (st : FVec Ideal S128x5120x32 .f32) (j : S128x32x5120.Idx) :
    transpose S128x32x5120 [0, 2, 1] st transposes_S128x5120x32_S128x32x5120_0_2_1 j = st (ix3 (j 0) (j 2) (j 1)) := by pointwise
theorem turned_at (al : FVec Ideal S5120x32 .f32) (j : S32x5120.Idx) :
    transpose S32x5120 [1, 0] al transposes_S5120x32_S32x5120_1_0 j = al (ix2 (j 1) (j 0)) := by pointwise

/-! Each window's block at a point, at its place in the arrays. -/

section windows
variable (h : Given1 V c dbl dw db al st u res sk ow) (t : Fin cfg1.N)
include h

theorem w0_at (b : Fin 128) (n : Fin 224) : iblk1 V c 0 t (ix2 b n) = dbl (ix2 b n) := by
  blk_simp [iblk1, h.dbl]
  blk_ext [idx1 t]
theorem w1_at (r : Fin 160) (e : Fin 512) (hl : t.val * 512 + e.val < 5120) : iblk1 V c 1 t (ix2 r e) = dw (ix2 r ⟨t.val * 512 + e.val, hl⟩) := by
  blk_simp [iblk1, h.dw]
  blk_ext [idx1 t]
theorem w2_at (e : Fin 512) (hl : t.val * 512 + e.val < 5120) : iblk1 V c 2 t (ix2 0 e) = db (ix1 ⟨t.val * 512 + e.val, hl⟩) := by
  blk_simp [iblk1, h.db]
  refine (row_at db _).trans ?_
  blk_ext [idx1 t]
theorem w3_at (s : Fin 32) (e : Fin 512) (hl : t.val * 512 + e.val < 5120) : iblk1 V c 3 t (ix2 s e) = al (ix2 ⟨t.val * 512 + e.val, hl⟩ s) := by
  blk_simp [iblk1, h.al]
  refine (turned_at al _).trans ?_
  blk_ext [idx1 t]
theorem w4_at (b : Fin 128) (s : Fin 32) (e : Fin 512) (hl : t.val * 512 + e.val < 5120) :
    iblk1 V c 4 t (ix3 b s e) = st (ix3 b ⟨t.val * 512 + e.val, hl⟩ s) := by
  blk_simp [iblk1, h.st]
  refine (swapped_at st _).trans ?_
  blk_ext [idx1 t]
theorem w5_at (b : Fin 128) (e : Fin 512) (hl : t.val * 512 + e.val < 5120) : iblk1 V c 5 t (ix2 b e) = u (ix2 b ⟨t.val * 512 + e.val, hl⟩) := by
  blk_simp [iblk1, h.u]
  blk_ext [idx1 t]
theorem w6_at (b : Fin 128) (e : Fin 512) (hl : t.val * 512 + e.val < 5120) : iblk1 V c 6 t (ix2 b e) = res (ix2 b ⟨t.val * 512 + e.val, hl⟩) := by
  blk_simp [iblk1, h.res]
  blk_ext [idx1 t]
theorem w7_at (e : Fin 512) (hl : t.val * 512 + e.val < 5120) : iblk1 V c 7 t (ix2 0 e) = sk (ix1 ⟨t.val * 512 + e.val, hl⟩) := by
  blk_simp [iblk1, h.sk]
  refine (row_at sk _).trans ?_
  blk_ext [idx1 t]
theorem w8_at (e : Fin 512) (n : Fin 2560) (hl : t.val * 512 + e.val < 5120) : iblk1 V c 8 t (ix2 e n) = ow (ix2 ⟨t.val * 512 + e.val, hl⟩ n) := by
  blk_simp [iblk1, h.ow]
  blk_ext [idx1 t]
end windows

/-! ## The second call's result -/

/-- The kernel's `y` before the gate: the decayed state through `Cm`, the drive times `∑ Bm * Cm`, and the skip. -/
def yK (dt : EReal) (dbl : FVec Ideal S128x224 .f32) (u : FVec Ideal S128x5120 .f32) (st : FVec Ideal S128x5120x32 .f32) (al : FVec Ideal S5120x32 .f32)
    (sk : FVec Ideal S5120 .f32) (b : Fin 128) (d : Fin 5120) : EReal :=
  ((∑ s : Fin 32, (Ideal.exp (dt * (0 - Ideal.exp (al (ix2 d s)))) * st (ix3 b d s)) * dbl (ix2 b ⟨192 + s.val, by omega⟩))
      + (dt * u (ix2 b d)) * (∑ s : Fin 32, dbl (ix2 b ⟨160 + s.val, by omega⟩) * dbl (ix2 b ⟨192 + s.val, by omega⟩)))
    + sk (ix1 d) * u (ix2 b d)

/-- The gated `y` through the output projection. -/
def outK (dbl : FVec Ideal S128x224 .f32) (dw : FVec Ideal S160x5120 .f32) (db : FVec Ideal S5120 .f32) (al : FVec Ideal S5120x32 .f32)
    (st : FVec Ideal S128x5120x32 .f32) (u res : FVec Ideal S128x5120 .f32) (sk : FVec Ideal S5120 .f32) (ow : FVec Ideal S5120x2560 .f32) :
    FVec Ideal S128x2560 .f32 := fun j =>
  ∑ d : Fin 5120, (yK (softplus (stepR dbl dw db (ix2 (j 0) d))) dbl u st al sk (j 0) d * res (ix2 (j 0) d)) * ow (ix2 d (j 1))

/-- One lane of a point's share is the term of the output projection at the lane's place. -/
theorem lane_at (x0 : FVec Ideal S128x224 .f32) (x1 : FVec Ideal S160x512 .f32) (x2 : FVec Ideal S1x512 .f32) (x3 : FVec Ideal S32x512 .f32)
    (x4 : FVec Ideal S128x32x512 .f32) (x5 x6 : FVec Ideal S128x512 .f32) (x7 : FVec Ideal S1x512 .f32) (x8 : FVec Ideal S512x2560 .f32)
    (b : Fin 128) (n : Fin 2560) (e : Fin 512) (d : Fin 5120)
    (h0 : ∀ k, x0 (ix2 b k) = dbl (ix2 b k)) (h1 : ∀ r, x1 (ix2 r e) = dw (ix2 r d)) (h2 : x2 (ix2 0 e) = db (ix1 d))
    (h3 : ∀ s, x3 (ix2 s e) = al (ix2 d s)) (h4 : ∀ s, x4 (ix3 b s e) = st (ix3 b d s)) (h5 : x5 (ix2 b e) = u (ix2 b d))
    (h6 : x6 (ix2 b e) = res (ix2 b d)) (h7 : x7 (ix2 0 e) = sk (ix1 d)) (h8 : x8 (ix2 e n) = ow (ix2 d n)) :
    (((k1_pay7 (F := Ideal) x0 x1 x2 x3 x4 (ix2 b e)
          + (k1_pay6 (F := Ideal) x0 x1 x2 (ix2 b e) * x5 (ix2 b e)) * (∑ s : Fin 32, x0 (ix2 b ⟨160 + s.val, by omega⟩) * x0 (ix2 b ⟨192 + s.val, by omega⟩)))
          + x7 (ix2 0 e) * x5 (ix2 b e)) * x6 (ix2 b e)) * x8 (ix2 e n)
      = (yK (softplus (stepR dbl dw db (ix2 b d))) dbl u st al sk b d * res (ix2 b d)) * ow (ix2 d n) := by
  have hdt : k1_pay6 (F := Ideal) x0 x1 x2 (ix2 b e) = softplus (stepR dbl dw db (ix2 b d)) := by
    rw [step_at, stepR_at, h2]
    simp only [h0, h1]
  rw [decayed_at, hdt, h5, h6, h7, h8]
  simp only [h0, h3, h4]
  rfl

/-- The second call's result, whole: the ten points' shares add up to the output projection. -/
theorem out_final (h : Given1 V c dbl dw db al st u res sk ow) : (dat1 V c).arrAt 9 cfg1.N = outK dbl dw db al st u res sk ow := by
  refine (dat1 V c).arrAt_eq_of_after_last 9 t1_9 (by decide +kernel) _ fun j => ?_
  blk_simp
  rw [after1_9, Pipeline.eq_sum_fin_of_reset_step_apply_last (fun n hn => acc1 V c n hn) 10 (fun _ => (0 : EReal))
    (fun t j => contribBlk (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) j)
    (fun t h0 j => by rw [acc1_first V c t (by have := Nat.lt_of_lt_of_eq t.isLt N_1; omega), zero_add])
    (fun t h0 j => by rw [acc1_later V c t (by omega), next1_at])
    (le_of_eq N_1) t1_9 rfl j, zero_add]
  refine Eq.trans (Fin.sum_fin_congr fun p => (congrArg _ (eq_ix2 j)).trans (share_at _ _ _ _ _ _ _ _ _ _ _)) ?_
  exact Fin.sum_mul_add_congr fun t e hl => lane_at _ _ _ _ _ _ _ _ _ _ _ _ _
    (fun _ => w0_at h t _ _) (fun _ => w1_at h t _ e hl) (w2_at h t e hl) (fun _ => w3_at h t _ e hl) (fun _ => w4_at h t _ _ e hl)
    (w5_at h t _ e hl) (w6_at h t _ e hl) (w7_at h t e hl) (w8_at h t e _ hl)

end Cert.KernelIdeal.Decode

end
-- ==== Proof.Reals.lean ====
module

public import proofs.«01_k».proof.Proof.ReferenceAt

@[expose] public section

noncomputable section

open Idealize.ShloMosaic Idealize.ShloMosaic.TcCoe Idealize.SL.Sem

namespace Cert.ReferenceIdeal.Decode

open Cert.ReferenceIdeal Cert.ReferenceIdeal.Gen

/-! ## Extended reals that are real -/

/-- A value that is a real number, neither infinity. -/
def IsReal (z : EReal) : Prop := ∃ r : ℝ, z = (r : EReal)

theorem IsReal.add {y z : EReal} (hy : IsReal y) (hz : IsReal z) : IsReal (y + z) := by
  obtain ⟨p, rfl⟩ := hy
  obtain ⟨q, rfl⟩ := hz
  exact ⟨p + q, (EReal.coe_add p q).symm⟩

theorem IsReal.mul {y z : EReal} (hy : IsReal y) (hz : IsReal z) : IsReal (y * z) := by
  obtain ⟨p, rfl⟩ := hy
  obtain ⟨q, rfl⟩ := hz
  exact ⟨p * q, (EReal.coe_mul p q).symm⟩

/-- A sum of real values is the sum of the reals. -/
theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem IsReal.sum {n : ℕ} {f : Fin n → EReal} (h : ∀ i, IsReal (f i)) : IsReal (∑ i, f i) := by
  choose g hg using h
  exact ⟨∑ i, g i, by rw [← coe_sum]; exact Finset.sum_congr rfl fun i _ => hg i⟩

/-- `silu` of a real is real. -/
theorem IsReal.silu {z : EReal} (h : IsReal z) : IsReal (silu z) := by
  obtain ⟨r, rfl⟩ := h
  exact (show IsReal (r : EReal) from ⟨r, rfl⟩).mul ⟨_, Ideal.logistic_coe r⟩

/-- `softplus` of a real is real: the logarithm is of a number above 1. -/
theorem IsReal.softplus {z : EReal} (h : IsReal z) : IsReal (softplus z) := by
  obtain ⟨r, rfl⟩ := h
  have hm : ∀ p q : ℝ, max (p : EReal) (q : EReal) = ((max p q : ℝ) : EReal) := fun p q =>
    (Monotone.map_max (fun _ _ h => EReal.coe_le_coe_iff.mpr h)).symm
  refine IsReal.add ⟨max r 0, hm r 0⟩ ⟨Real.log (1 + Real.exp (-max r (-r))), ?_⟩
  have he : (1 : EReal) + Ideal.exp (-max (r : EReal) (-(r : EReal))) = ((1 + Real.exp (-max r (-r)) : ℝ) : EReal) := by
    rw [← EReal.coe_neg, hm, ← EReal.coe_neg, EReal.coe_add]
    rfl
  rw [he]
  show (if 1 + Real.exp (-max r (-r)) ≤ 0 then (⊥ : EReal) else _) = _
  rw [if_neg (by have := Real.exp_pos (-max r (-r)); linarith)]

/-! ## Multiplying out -/

/-- Multiplication by a real distributes over adding a real to any value, infinities included. -/
theorem add_mul_real (a : EReal) (r k : ℝ) : (a + (r : EReal)) * (k : EReal) = a * (k : EReal) + ((r * k : ℝ) : EReal) := by
  induction a with
  | bot =>
    rw [EReal.bot_add]
    rcases lt_trichotomy k 0 with hk | rfl | hk
    · rw [EReal.bot_mul_coe_of_neg hk, EReal.top_add_coe]
    · simp
    · rw [EReal.bot_mul_coe_of_pos hk, EReal.bot_add]
  | coe p => rw [← EReal.coe_add, ← EReal.coe_mul, ← EReal.coe_mul, ← EReal.coe_add, add_mul]
  | top =>
    rw [EReal.top_add_coe]
    rcases lt_trichotomy k 0 with hk | rfl | hk
    · rw [EReal.top_mul_coe_of_neg hk, EReal.bot_add]
    · simp
    · rw [EReal.top_mul_coe_of_pos hk, EReal.top_add_coe]

/-- The step read out: with a real step size, `u`, `Bm` and `Cm`, what the drive adds factors out of the sum over the
    states, whatever the decayed states `a` are. -/
theorem drive_factors {n : ℕ} (a B C : Fin n → EReal) {dt u : EReal} (hdt : IsReal dt) (hu : IsReal u)
    (hB : ∀ s, IsReal (B s)) (hC : ∀ s, IsReal (C s)) :
    (∑ s, a s * C s) + (dt * u) * (∑ s, B s * C s) = ∑ s, (a s + dt * B s * u) * C s := by
  obtain ⟨t, rfl⟩ := hdt
  obtain ⟨v, rfl⟩ := hu
  choose p hp using hB
  choose q hq using hC
  have hbc : (∑ s, B s * C s) = ((∑ s, p s * q s : ℝ) : EReal) := by
    rw [← coe_sum]
    exact Finset.sum_congr rfl fun s _ => by rw [hp, hq, EReal.coe_mul]
  have hs : ∀ s, (a s + (t : EReal) * B s * (v : EReal)) * C s = a s * C s + ((t * p s * v * q s : ℝ) : EReal) := fun s => by
    rw [hp, hq, ← EReal.coe_mul, ← EReal.coe_mul, add_mul_real]
  rw [Finset.sum_congr rfl fun s _ => hs s, Finset.sum_add_distrib, coe_sum, hbc, ← EReal.coe_mul, ← EReal.coe_mul]
  refine congrArg (fun z : ℝ => (∑ s, a s * C s) + (z : EReal)) ?_
  rw [Finset.mul_sum]
  exact Finset.sum_congr rfl fun s _ => by ring

end Cert.ReferenceIdeal.Decode

end
-- ==== Proof.Finite.lean ====
module

public import proofs.«01_k».proof.Pre_finite_inputs
public import proofs.«01_k».proof.Proof.Reals
public import Idealize.ShloMosaic.Lib.ReduceAll
public import Idealize.ShloMosaic.Lib.KernelVsHost

@[expose] public section

noncomputable section

open Idealize.ShloMosaic Idealize.ShloMosaic.TcCoe Idealize.SL.Sem

namespace Cert.Pre_finite_inputs

open Cert.ReferenceIdeal.Decode (IsReal)

/-- The shape relations the precondition's operations take. -/
instance facts : Facts where
  bcast_S_S1x1x128x2560 := by decide
  reducesTo_S1x1x128x2560_S_d0_1_2_3 := by decide
  h_S_ := by decide
  slices_S4x128x5120_S3x128x5120_1_0_0 := by decide
  bcast_S_S3x128x5120 := by decide
  reducesTo_S3x128x5120_S_d0_1_2 := by decide
  bcast_S_S2560x5120 := by decide
  reducesTo_S2560x5120_S_d0_1 := by decide
  bcast_S_S4x5120 := by decide
  reducesTo_S4x5120_S_d0_1 := by decide
  bcast_S_S5120 := by decide
  reducesTo_S5120_S_d0 := by decide
  bcast_S_S5120x224 := by decide
  reducesTo_S5120x224_S_d0_1 := by decide
  bcast_S_S160x5120 := by decide
  reducesTo_S160x5120_S_d0_1 := by decide

/-- The 32-bit word of positive infinity. -/
theorem ofBits_top : Ideal.ofBits .f32 0x7F800000#32 = ⊤ := by simp [Ideal.ofBits, Ideal.ieee]

/-- A value whose magnitude is below positive infinity is real. -/
theorem isReal_of_lt {z : EReal} (h : max z (-z) < ⊤) : IsReal z := by
  induction z with
  | bot => exact absurd h (by simp)
  | coe r => exact ⟨r, rfl⟩
  | top => exact absurd h (by simp)

/-- One array's test read back: if every magnitude compares below infinity, every entry is real. -/
theorem isReal_of_all {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant S_ .f32 0x7F800000#32))) (constantI S_ 1 1#1) hr hu j = 1#1)
    (i : s.Idx) : IsReal (a i) := by
  have : Subsingleton S_.Idx := ⟨fun p q => funext fun k => k.elim0⟩
  have e := Host.reduce_andi_all _ _ hr hu j h i
  refine isReal_of_lt ?_
  have e' : Ideal.cmp .olt (max (a i : EReal) (-(a i : EReal))) (Ideal.ofBits .f32 0x7F800000#32) = 1#1 := e
  rw [ofBits_top] at e'
  by_contra hn
  simp [Ideal.cmp, hn] at e'

/-- What the precondition says of the arguments: every entry it reads is real. -/
structure Finite (x : FVec Ideal S1x1x128x2560 .f32) (cs : FVec Ideal S4x128x5120 .f32) (w : FVec Ideal S2560x5120 .f32)
    (cw : FVec Ideal S4x5120 .f32) (cb : FVec Ideal S5120 .f32) (xp : FVec Ideal S5120x224 .f32) (dw : FVec Ideal S160x5120 .f32)
    (db : FVec Ideal S5120 .f32) : Prop where
  x : ∀ i, IsReal (x i)
  cs : ∀ i : S3x128x5120.Idx, IsReal (cs (ix3 ⟨1 + (i 0).val, Nat.add_lt_add_left (i 0).isLt 1⟩ (i 1) (i 2)))
  w : ∀ i, IsReal (w i)
  cw : ∀ i, IsReal (cw i)
  cb : ∀ i, IsReal (cb i)
  xp : ∀ i, IsReal (xp i)
  dw : ∀ i, IsReal (dw i)
  db : ∀ i, IsReal (db i)

/-- The cache's last three slots. -/
theorem slots_at (cs : FVec Ideal S4x128x5120 .f32) (h : S4x128x5120.Slices ![1, 0, 0] S3x128x5120) (i : S3x128x5120.Idx) :
    extractStridedSlice S3x128x5120 ![1, 0, 0] cs h i = cs (ix3 ⟨1 + (i 0).val, Nat.add_lt_add_left (i 0).isLt 1⟩ (i 1) (i 2)) := by
  pointwise

/-- The precondition, read back. -/
theorem finite_of_fn (x : FVec Ideal S1x1x128x2560 .f32) (cs : FVec Ideal S4x128x5120 .f32) (st : FVec Ideal S128x5120x32 .f32)
    (w wm : FVec Ideal S2560x5120 .f32) (cw : FVec Ideal S4x5120 .f32) (cb : FVec Ideal S5120 .f32) (al : FVec Ideal S5120x32 .f32)
    (xp : FVec Ideal S5120x224 .f32) (dw : FVec Ideal S160x5120 .f32) (db : FVec Ideal S5120 .f32) (sk : FVec Ideal S5120 .f32)
    (ow : FVec Ideal S5120x2560 .f32)
    (h : fn (F := Ideal) x cs st w wm cw cb al xp dw db sk ow = fun _ => 1#1) : Finite x cs w cw cb xp dw db := by
  have h := congrFun h (fun k => k.elim0)
  dsimp only [fn, fn_part1, fn_part2] at h
  obtain ⟨h, hdb⟩ := IntOp.andi_eq_one.1 h
  obtain ⟨h, hdw⟩ := IntOp.andi_eq_one.1 h
  obtain ⟨h, hxp⟩ := IntOp.andi_eq_one.1 h
  obtain ⟨h, hcb⟩ := IntOp.andi_eq_one.1 h
  obtain ⟨h, hcw⟩ := IntOp.andi_eq_one.1 h
  obtain ⟨h, hw⟩ := IntOp.andi_eq_one.1 h
  obtain ⟨hx, hcs⟩ := IntOp.andi_eq_one.1 h
  exact ⟨isReal_of_all _ _ _ _ _ hx, fun i => slots_at cs _ i ▸ isReal_of_all _ _ _ _ _ hcs i, isReal_of_all _ _ _ _ _ hw, isReal_of_all _ _ _ _ _ hcw,
    isReal_of_all _ _ _ _ _ hcb, isReal_of_all _ _ _ _ _ hxp, isReal_of_all _ _ _ _ _ hdw, isReal_of_all _ _ _ _ _ hdb⟩

end Cert.Pre_finite_inputs

end
-- ==== Proof.Value.lean ====
module

public import proofs.«01_k».proof.Proof.Run
public import proofs.«01_k».proof.Proof.Stage1Dbl
public import proofs.«01_k».proof.Proof.Stage2Value
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.KernelIdeal.Decode

open Cert.KernelIdeal Cert.KernelIdeal.Gen
open Cert.Pre_finite_inputs (Finite)
open Cert.ReferenceIdeal.Decode (silu softplus siluR_at softplusR_at convR_at dblR_at stepR_at outR_at lastR_at siluR softplusR projR convR dblR stepR outR lastR uOf resultR IsReal drive_factors)

/-! ## The two calls' results are the reference's -/

section values
variable {x : FVec Ideal S1x1x128x2560 .f32} {cs : FVec Ideal S4x128x5120 .f32} {w wm : FVec Ideal S2560x5120 .f32}
  {cw : FVec Ideal S4x5120 .f32} {cb : FVec Ideal S5120 .f32} {xp : FVec Ideal S5120x224 .f32} {dw : FVec Ideal S160x5120 .f32}
  {db : FVec Ideal S5120 .f32}

/-- With finite inputs `u` is real, -/
theorem u_real (h : Finite x cs w cw cb xp dw db) (b : Fin 128) (d : Fin 5120) : IsReal (uOf x cs w cw cb (ix2 b d)) := by
  unfold uOf
  rw [siluR_at]
  refine IsReal.silu ?_
  rw [convR_at]
  have hc : ∀ (s : Fin 3) (b : Fin 128) (d : Fin 5120), IsReal (cs (ix3 ⟨1 + s.val, by omega⟩ b d)) := fun s b d => h.cs (ix3 s b d)
  exact (((((hc 0 _ _).mul (h.cw _)).add ((hc 1 _ _).mul (h.cw _))).add ((hc 2 _ _).mul (h.cw _))).add
    ((IsReal.sum fun k => (h.x _).mul (h.w _)).mul (h.cw _))).add (h.cb _)

/-- so is the projection of it, -/
theorem dbl_real (h : Finite x cs w cw cb xp dw db) (b : Fin 128) (n : Fin 224) : IsReal (dblR (uOf x cs w cw cb) xp (ix2 b n)) := by
  rw [dblR_at]
  exact IsReal.sum fun d => (u_real h _ _).mul (h.xp _)

/-- and so is the step size. -/
theorem dt_real (h : Finite x cs w cw cb xp dw db) (b : Fin 128) (d : Fin 5120) :
    IsReal (softplus (stepR (dblR (uOf x cs w cw cb) xp) dw db (ix2 b d))) := by
  refine IsReal.softplus ?_
  rw [stepR_at]
  exact (IsReal.sum fun r => (dbl_real h _ _).mul (h.dw _)).add (h.db _)

/-- With finite inputs the kernel's `y` is the reference's: the drive it factors out of the sum over the states
    multiplies back in. -/
theorem yK_eq (h : Finite x cs w cw cb xp dw db) (st : FVec Ideal S128x5120x32 .f32) (al : FVec Ideal S5120x32 .f32)
    (sk : FVec Ideal S5120 .f32) (b : Fin 128) (d : Fin 5120) :
    yK (softplus (stepR (dblR (uOf x cs w cw cb) xp) dw db (ix2 b d))) (dblR (uOf x cs w cw cb) xp) (uOf x cs w cw cb) st al sk b d
      = outR (softplusR (stepR (dblR (uOf x cs w cw cb) xp) dw db)) (dblR (uOf x cs w cw cb) xp) (uOf x cs w cw cb) st al sk (ix2 b d) := by
  rw [outR_at, softplusR_at]
  unfold yK
  rw [drive_factors _ _ _ (dt_real h b d) (u_real h b d) (fun s => dbl_real h b _) (fun s => dbl_real h b _)]
  simp only [zero_sub]

/-- So the second call's result is the reference's. -/
theorem outK_eq (h : Finite x cs w cw cb xp dw db) (st : FVec Ideal S128x5120x32 .f32) (al : FVec Ideal S5120x32 .f32)
    (res : FVec Ideal S128x5120 .f32) (sk : FVec Ideal S5120 .f32) (ow : FVec Ideal S5120x2560 .f32) :
    outK (dblR (uOf x cs w cw cb) xp) dw db al st (uOf x cs w cw cb) res sk ow
      = lastR (outR (softplusR (stepR (dblR (uOf x cs w cw cb) xp) dw db)) (dblR (uOf x cs w cw cb) xp) (uOf x cs w cw cb) st al sk) res ow := by
  funext j
  refine Eq.trans ?_ ((congrArg _ (eq_ix2 j)).trans (lastR_at _ _ _ _ _)).symm
  exact Finset.sum_congr rfl fun d _ => congrArg (fun y : EReal => (y * res (ix2 (j 0) d)) * ow (ix2 d (j 1))) (yK_eq h st al sk (j 0) d)
end values

/-! ## What the calls find -/

variable (m : (ℓ : Loc nD τ sig) → Buf (Elt Ideal) ℓ) (ρ : Dev nD → PrngReg) (c : Dev nD)

/-- Argument `a` as launched. -/
abbrev arg (a : Ref sig .tc) : Buf (Elt Ideal) ((c : Thread nD τ).loc a) := m ((c : Thread nD τ).loc a)

/-- The first call finds the arguments, reshaped or transposed. -/
theorem given0 : Given0 (E1 m ρ) c (arg m c main_arg0) (arg m c main_arg1) (arg m c main_arg3) (arg m c main_arg4) (arg m c main_arg5)
    (arg m c main_arg6) (arg m c main_arg8) where
  x := by
    unfold_abbrev_sides
    after_results
    rfl
  cs := by
    unfold_abbrev_sides
    after_results
    rfl
  w := W1_of m ρ c _ (hostOps0_args _ (by decide))
  wm := W1_of m ρ c _ (hostOps0_args _ (by decide))
  cw := W1_of m ρ c _ (hostOps0_args _ (by decide))
  cb := by
    unfold_abbrev_sides
    after_results
    rfl
  xp := by
    unfold_abbrev_sides
    after_results

/-- The arguments where the second host stretch begins. -/
theorem W2_args (a : Ref sig .tc) (ha : a ∈ argRefs) : W2 m ρ c (Proc.devRef .tc a) = arg m c a :=
  (W2_of m ρ c a (argsIn0 a ha)).trans (W1_of m ρ c a (hostOps0_args a ha))

/-- `u` of the arguments. -/
abbrev uM : FVec Ideal S128x5120 .f32 := uOf (arg m c main_arg0) (arg m c main_arg1) (arg m c main_arg3) (arg m c main_arg5) (arg m c main_arg6)

/-- The second call finds the first call's results and the arguments, reshaped or transposed. -/
theorem given1 : Given1 (E3 m ρ) c (dblR (uM m c) (arg m c main_arg8)) (arg m c main_arg9) (arg m c main_arg10) (arg m c main_arg7)
    (arg m c main_arg2) (uM m c) (siluR (projR (arg m c main_arg0) (arg m c main_arg4))) (arg m c main_arg11) (arg m c main_arg12) where
  dbl := (W3_of m ρ c main_v4_2 (by decide)).trans ((W2_arr m ρ c 10).trans (dbl_final (given0 m ρ c)))
  u := (W3_of m ρ c main_v4_0 (by decide)).trans ((W2_arr m ρ c 8).trans (u_final (given0 m ρ c)))
  res := (W3_of m ρ c main_v4_1 (by decide)).trans ((W2_arr m ρ c 9).trans (gate_final (given0 m ρ c)))
  dw := W3_args m ρ c _ (by decide)
  ow := W3_args m ρ c _ (by decide)
  db := by
    unfold_abbrev_sides
    after_results
    rw [W2_args m ρ c main_arg10 (by decide)]
    rfl
  al := by
    unfold_abbrev_sides
    after_results
    rw [W2_args m ρ c main_arg7 (by decide)]
  st := by
    unfold_abbrev_sides
    after_results
    rw [W2_args m ρ c main_arg2 (by decide)]
  sk := by
    unfold_abbrev_sides
    after_results
    rw [W2_args m ρ c main_arg11 (by decide)]
    rfl

/-- The program's result is the second call's, reshaped. -/
theorem last_reshape : W5 m ρ c (Proc.devRef .tc main_v10)
    = shapeCast S1x1x128x2560 (W4 m ρ c (Proc.devRef .tc main_v9)) shapeCasts_S128x2560_S1x1x128x2560 := by
  unfold_abbrev_sides
  after_results
  rfl

/-- With finite inputs the program's result is the reference's of the same arguments. -/
theorem result_eq (h : Finite (arg m c main_arg0) (arg m c main_arg1) (arg m c main_arg3) (arg m c main_arg5) (arg m c main_arg6)
      (arg m c main_arg8) (arg m c main_arg9) (arg m c main_arg10)) :
    W5 m ρ c (Proc.devRef .tc main_v10)
      = resultR (uM m c) (arg m c main_arg0) (arg m c main_arg2) (arg m c main_arg4) (arg m c main_arg7) (arg m c main_arg8)
          (arg m c main_arg9) (arg m c main_arg10) (arg m c main_arg11) (arg m c main_arg12) := by
  have e := (W4_arr m ρ c 9).trans ((out_final (given1 m ρ c)).trans (outK_eq h _ _ _ _ _))
  exact (last_reshape m ρ c).trans (congrArg (fun y : FVec Ideal S128x2560 .f32 => shapeCast S1x1x128x2560 y shapeCasts_S128x2560_S1x1x128x2560) e)

end Cert.KernelIdeal.Decode

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.Reference
public import proofs.«01_k».proof.Proof.Value

@[expose] public section

noncomputable section

namespace Cert.Proof

open Idealize.ShloMosaic Idealize.ShloMosaic.TcCoe Idealize.SL.Sem
open Cert.KernelIdeal.Decode (argRefs)

/-- With finite inputs the kernel ends at the reference's result of the same arguments. -/
theorem value : Cert.algebraic_KernelIdeal_ReferenceIdeal_pre_finite_inputs := by
  intro m g m' g' hpre hagree
  refine ⟨fun c => Cert.KernelIdeal.Decode.W5 m g c (Proc.devRef .tc Cert.KernelIdeal.main_v10), ?_, ?_⟩
  · refine (θ_run Cert.KernelIdeal.defs _ _).mono (fun r h c => ⟨h.1 c, ?_⟩) (Cert.KernelIdeal.Decode.run_result m g)
    have ha := h.2.1 c
    exact ⟨ha _ (by decide), ha _ (by decide), ha _ (by decide), ha _ (by decide), ha _ (by decide), ha _ (by decide), ha _ (by decide),
      ha _ (by decide), ha _ (by decide), ha _ (by decide), ha _ (by decide), ha _ (by decide), ha _ (by decide)⟩
  · refine (θ_run Cert.ReferenceIdeal.defs _ _).mono (fun r h c => ⟨(h c).1.trans ?_, (h c).2⟩) (Cert.ReferenceIdeal.Decode.run m' g')
    obtain ⟨e0, e1, e2, e3, e4, e5, e6, e7, e8, e9, e10, e11, e12⟩ := hagree c
    rw [e0, e1, e2, e3, e4, e5, e6, e7, e8, e9, e10, e11, e12]
    exact (Cert.KernelIdeal.Decode.result_eq m g c (Cert.Pre_finite_inputs.finite_of_fn _ _ _ _ _ _ _ _ _ _ _ _ _ (hpre c))).symm

/-- The certificate's claim. -/
theorem claim : Cert.Claim := ⟨Cert.Kernel.Gen.facts, Cert.KernelIdeal.Gen.facts, Cert.ReferenceIdeal.Gen.facts, Cert.Pre_finite_inputs.facts,
  fun m g _ => Cert.Kernel.Decode.frame m g,
  fun m g _ => Cert.KernelIdeal.Decode.frame m g,
  fun m g _ => Cert.KernelIdeal.Decode.frame m g,
  Cert.ReferenceIdeal.Decode.frame,
  fun m g _ => Cert.ReferenceIdeal.Decode.frame m g trivial,
  trivial,
  value⟩

end Cert.Proof

end
